-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384 : Shape := ⟨1, ![16384]⟩
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S100000x64 .f32) (main_arg2 : FVec F S64x128 .f32) (main_arg3 : FVec F S128 .f32) (main_arg4 : FVec F S128x32 .f32) (main_arg5 : FVec F S32 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S64x100000 : Shape := ⟨2, ![64, 100000]⟩
abbrev S1x128 : Shape := ⟨2, ![1, 128]⟩
abbrev S1x32 : Shape := ⟨2, ![1, 32]⟩
abbrev S25088x128 : Shape := ⟨2, ![25088, 128]⟩
abbrev S64x3584 : Shape := ⟨2, ![64, 3584]⟩
abbrev S3584x128 : Shape := ⟨2, ![3584, 128]⟩
abbrev S3584x64 : Shape := ⟨2, ![3584, 64]⟩
abbrev S3584x32 : Shape := ⟨2, ![3584, 32]⟩
abbrev S32x16384 : Shape := ⟨2, ![32, 16384]⟩
abbrev S512 : Shape := ⟨1, ![512]⟩
abbrev S512x128 : Shape := ⟨2, ![512, 128]⟩
abbrev S32x512 : Shape := ⟨2, ![32, 512]⟩
abbrev S_ : Shape := ⟨0, ![]⟩
abbrev S16 : Shape := ⟨1, ![16]⟩
abbrev S128x128 : Shape := ⟨2, ![128, 128]⟩
abbrev S1x16 : Shape := ⟨2, ![1, 16]⟩
abbrev S16384x32 : Shape := ⟨2, ![16384, 32]⟩

abbrev nBuf : Table → Nat
  | .hbm => 12
  | .local .tc .vmem => 14
  | .local .scVector .vmem => 4
  | _ => 0

abbrev bufTy : (tb : Table) → Fin (nBuf tb) → BufTy
  | .hbm, ⟨0, _⟩ => ⟨S16384, .i32⟩
  | .hbm, ⟨1, _⟩ => ⟨S100000x64, .f32⟩
  | .hbm, ⟨2, _⟩ => ⟨S64x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S64x100000, .f32⟩
  | .hbm, ⟨7, _⟩ => ⟨S1x128, .f32⟩
  | .hbm, ⟨8, _⟩ => ⟨S1x32, .f32⟩
  | .hbm, ⟨9, _⟩ => ⟨S25088x128, .f32⟩
  | .hbm, ⟨10, _⟩ => ⟨S32x16384, .f32⟩
  | .hbm, ⟨11, _⟩ => ⟨S16384x32, .f32⟩
  | .local .tc .vmem, ⟨0, _⟩ => ⟨S64x3584, .f32⟩
  | .local .tc .vmem, ⟨1, _⟩ => ⟨S64x3584, .f32⟩
  | .local .tc .vmem, ⟨2, _⟩ => ⟨S64x3584, .f32⟩
  | .local .tc .vmem, ⟨3, _⟩ => ⟨S64x3584, .f32⟩
  | .local .tc .vmem, ⟨4, _⟩ => ⟨S64x3584, .f32⟩
  | .local .tc .vmem, ⟨5, _⟩ => ⟨S64x3584, .f32⟩
  | .local .tc .vmem, ⟨6, _⟩ => ⟨S64x3584, .f32⟩
  | .local .tc .vmem, ⟨7, _⟩ => ⟨S64x3584, .f32⟩
  | .local .tc .vmem, ⟨8, _⟩ => ⟨S64x128, .f32⟩
  | .local .tc .vmem, ⟨9, _⟩ => ⟨S1x128, .f32⟩
  | .local .tc .vmem, ⟨10, _⟩ => ⟨S128x32, .f32⟩
  | .local .tc .vmem, ⟨11, _⟩ => ⟨S1x32, .f32⟩
  | .local .tc .vmem, ⟨12, _⟩ => ⟨S3584x128, .f32⟩
  | .local .tc .vmem, ⟨13, _⟩ => ⟨S3584x128, .f32⟩
  | .local .scVector .vmem, ⟨0, _⟩ => ⟨S512, .i32⟩
  | .local .scVector .vmem, ⟨1, _⟩ => ⟨S512, .i32⟩
  | .local .scVector .vmem, ⟨2, _⟩ => ⟨S512x128, .f32⟩
  | .local .scVector .vmem, ⟨3, _⟩ => ⟨S32x512, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v3_scv : Ref sig .scVector := ⟨.hbm, 9, rfl⟩
abbrev main_arg0_scv : Ref sig .scVector := ⟨.hbm, 0, rfl⟩
abbrev main_v4_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c7_i32 : BitVec 32 := 7#32
  let v0 : BitVec 32 := Scalar.addi c7_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c14_i32 : BitVec 32 := 14#32
  let v0 : BitVec 32 := Scalar.addi c14_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c21_i32 : BitVec 32 := 21#32
  let v0 : BitVec 32 := Scalar.addi c21_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3584x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k1_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k1_off2 (k1_t1 : Fin k1_t1_loop.trips) : Fin 1 → Nat :=
  let c0_i32_0 : BitVec 32 := 0#32
  let c1_i32 : BitVec 32 := 1#32
  let arg13 : BitVec 32 := Scf.iv c0_i32_0 c1_i32 k1_t1
  let c16_i32_56 : BitVec 32 := 16#32
  let v32 : BitVec 32 := Scalar.muli arg13 c16_i32_56
  let v33 : Index := Scalar.indexCast v32
  ![v33.toNat]
@[reducible] def k1_t2_loop : Scf.Loop 32 :=
  let c0_i32_25 : BitVec 32 := 0#32
  let c8_i32 : BitVec 32 := 8#32
  let v19 : BitVec 32 := Scalar.addi c0_i32_25 c8_i32
  let c1_i32_26 : BitVec 32 := 1#32
  ⟨c0_i32_25, v19, c1_i32_26⟩
def k1_off3 (k1_t2 : Fin k1_t2_loop.trips) : Fin 1 → Nat :=
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v33 : Index := Scalar.indexCast v32
  ![v33.toNat]

def k1_chk1 (v46 : IVec S16 32) (v48 : IVec S16 32) : Prop :=
  (∀ a x, ((![v46, v48] : Fin 2 → IVec S16 32) a x).toNat < S512x128.size a)
theorem k1_idx1_inb : ∀ (v46 : IVec S16 32) (v48 : IVec S16 32) (k1_hw1 : k1_chk1 v46 v48), ∀ a x, ((![v46, v48] : Fin 2 → IVec S16 32) a x).toNat < S512x128.size a := fun v46 v48 k1_hw1 => k1_hw1
def k1_off4 (k1_t2 : Fin k1_t2_loop.trips) : Fin 2 → Nat :=
  let c0_i32_61 : BitVec 32 := 0#32
  let v50 : Index := Scalar.indexCast c0_i32_61
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v51 : Index := Scalar.indexCast v32
  ![0, v51.toNat]

def k1_chk2 (v46 : IVec S16 32) (v54 : IVec S16 32) : Prop :=
  (∀ a x, ((![v46, v54] : Fin 2 → IVec S16 32) a x).toNat < S512x128.size a)
theorem k1_idx2_inb : ∀ (v46 : IVec S16 32) (v54 : IVec S16 32) (k1_hw2 : k1_chk2 v46 v54), ∀ a x, ((![v46, v54] : Fin 2 → IVec S16 32) a x).toNat < S512x128.size a := fun v46 v54 k1_hw2 => k1_hw2
def k1_off5 (k1_t2 : Fin k1_t2_loop.trips) : Fin 2 → Nat :=
  let c1_i32_63 : BitVec 32 := 1#32
  let v56 : Index := Scalar.indexCast c1_i32_63
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v57 : Index := Scalar.indexCast v32
  ![1, v57.toNat]

def k1_chk3 (v46 : IVec S16 32) (v60 : IVec S16 32) : Prop :=
  (∀ a x, ((![v46, v60] : Fin 2 → IVec S16 32) a x).toNat < S512x128.size a)
theorem k1_idx3_inb : ∀ (v46 : IVec S16 32) (v60 : IVec S16 32) (k1_hw3 : k1_chk3 v46 v60), ∀ a x, ((![v46, v60] : Fin 2 → IVec S16 32) a x).toNat < S512x128.size a := fun v46 v60 k1_hw3 => k1_hw3
def k1_off6 (k1_t2 : Fin k1_t2_loop.trips) : Fin 2 → Nat :=
  let c2_i32_65 : BitVec 32 := 2#32
  let v62 : Index := Scalar.indexCast c2_i32_65
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v63 : Index := Scalar.indexCast v32
  ![2, v63.toNat]

def k1_chk4 (v46 : IVec S16 32) (v66 : IVec S16 32) : Prop :=
  (∀ a x, ((![v46, v66] : Fin 2 → IVec S16 32) a x).toNat < S512x128.size a)
theorem k1_idx4_inb : ∀ (v46 : IVec S16 32) (v66 : IVec S16 32) (k1_hw4 : k1_chk4 v46 v66), ∀ a x, ((![v46, v66] : Fin 2 → IVec S16 32) a x).toNat < S512x128.size a := fun v46 v66 k1_hw4 => k1_hw4
def k1_off7 (k1_t2 : Fin k1_t2_loop.trips) : Fin 2 → Nat :=
  let c3_i32_66 : BitVec 32 := 3#32
  let v68 : Index := Scalar.indexCast c3_i32_66
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v69 : Index := Scalar.indexCast v32
  ![3, v69.toNat]

def k1_chk5 (v46 : IVec S16 32) (v72 : IVec S16 32) : Prop :=
  (∀ a x, ((![v46, v72] : Fin 2 → IVec S16 32) a x).toNat < S512x128.size a)
theorem k1_idx5_inb : ∀ (v46 : IVec S16 32) (v72 : IVec S16 32) (k1_hw5 : k1_chk5 v46 v72), ∀ a x, ((![v46, v72] : Fin 2 → IVec S16 32) a x).toNat < S512x128.size a := fun v46 v72 k1_hw5 => k1_hw5
def k1_off8 (k1_t2 : Fin k1_t2_loop.trips) : Fin 2 → Nat :=
  let c4_i32_67 : BitVec 32 := 4#32
  let v74 : Index := Scalar.indexCast c4_i32_67
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v75 : Index := Scalar.indexCast v32
  ![4, v75.toNat]

def k1_chk6 (v46 : IVec S16 32) (v78 : IVec S16 32) : Prop :=
  (∀ a x, ((![v46, v78] : Fin 2 → IVec S16 32) a x).toNat < S512x128.size a)
theorem k1_idx6_inb : ∀ (v46 : IVec S16 32) (v78 : IVec S16 32) (k1_hw6 : k1_chk6 v46 v78), ∀ a x, ((![v46, v78] : Fin 2 → IVec S16 32) a x).toNat < S512x128.size a := fun v46 v78 k1_hw6 => k1_hw6
def k1_off9 (k1_t2 : Fin k1_t2_loop.trips) : Fin 2 → Nat :=
  let c5_i32_68 : BitVec 32 := 5#32
  let v80 : Index := Scalar.indexCast c5_i32_68
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v81 : Index := Scalar.indexCast v32
  ![5, v81.toNat]

def k1_chk7 (v46 : IVec S16 32) (v84 : IVec S16 32) : Prop :=
  (∀ a x, ((![v46, v84] : Fin 2 → IVec S16 32) a x).toNat < S512x128.size a)
theorem k1_idx7_inb : ∀ (v46 : IVec S16 32) (v84 : IVec S16 32) (k1_hw7 : k1_chk7 v46 v84), ∀ a x, ((![v46, v84] : Fin 2 → IVec S16 32) a x).toNat < S512x128.size a := fun v46 v84 k1_hw7 => k1_hw7
def k1_off10 (k1_t2 : Fin k1_t2_loop.trips) : Fin 2 → Nat :=
  let c6_i32_69 : BitVec 32 := 6#32
  let v86 : Index := Scalar.indexCast c6_i32_69
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v87 : Index := Scalar.indexCast v32
  ![6, v87.toNat]

def k1_chk8 (v46 : IVec S16 32) (v90 : IVec S16 32) : Prop :=
  (∀ a x, ((![v46, v90] : Fin 2 → IVec S16 32) a x).toNat < S512x128.size a)
theorem k1_idx8_inb : ∀ (v46 : IVec S16 32) (v90 : IVec S16 32) (k1_hw8 : k1_chk8 v46 v90), ∀ a x, ((![v46, v90] : Fin 2 → IVec S16 32) a x).toNat < S512x128.size a := fun v46 v90 k1_hw8 => k1_hw8
def k1_off11 (k1_t2 : Fin k1_t2_loop.trips) : Fin 2 → Nat :=
  let c7_i32_70 : BitVec 32 := 7#32
  let v92 : Index := Scalar.indexCast c7_i32_70
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v93 : Index := Scalar.indexCast v32
  ![7, v93.toNat]

def k1_chk9 (v46 : IVec S16 32) (v96 : IVec S16 32) : Prop :=
  (∀ a x, ((![v46, v96] : Fin 2 → IVec S16 32) a x).toNat < S512x128.size a)
theorem k1_idx9_inb : ∀ (v46 : IVec S16 32) (v96 : IVec S16 32) (k1_hw9 : k1_chk9 v46 v96), ∀ a x, ((![v46, v96] : Fin 2 → IVec S16 32) a x).toNat < S512x128.size a := fun v46 v96 k1_hw9 => k1_hw9
def k1_off12 (k1_t2 : Fin k1_t2_loop.trips) : Fin 2 → Nat :=
  let c8_i32_72 : BitVec 32 := 8#32
  let v98 : Index := Scalar.indexCast c8_i32_72
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v99 : Index := Scalar.indexCast v32
  ![8, v99.toNat]

def k1_chk10 (v46 : IVec S16 32) (v102 : IVec S16 32) : Prop :=
  (∀ a x, ((![v46, v102] : Fin 2 → IVec S16 32) a x).toNat < S512x128.size a)
theorem k1_idx10_inb : ∀ (v46 : IVec S16 32) (v102 : IVec S16 32) (k1_hw10 : k1_chk10 v46 v102), ∀ a x, ((![v46, v102] : Fin 2 → IVec S16 32) a x).toNat < S512x128.size a := fun v46 v102 k1_hw10 => k1_hw10
def k1_off13 (k1_t2 : Fin k1_t2_loop.trips) : Fin 2 → Nat :=
  let c9_i32_74 : BitVec 32 := 9#32
  let v104 : Index := Scalar.indexCast c9_i32_74
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v105 : Index := Scalar.indexCast v32
  ![9, v105.toNat]

def k1_chk11 (v46 : IVec S16 32) (v108 : IVec S16 32) : Prop :=
  (∀ a x, ((![v46, v108] : Fin 2 → IVec S16 32) a x).toNat < S512x128.size a)
theorem k1_idx11_inb : ∀ (v46 : IVec S16 32) (v108 : IVec S16 32) (k1_hw11 : k1_chk11 v46 v108), ∀ a x, ((![v46, v108] : Fin 2 → IVec S16 32) a x).toNat < S512x128.size a := fun v46 v108 k1_hw11 => k1_hw11
def k1_off14 (k1_t2 : Fin k1_t2_loop.trips) : Fin 2 → Nat :=
  let c10_i32_75 : BitVec 32 := 10#32
  let v110 : Index := Scalar.indexCast c10_i32_75
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v111 : Index := Scalar.indexCast v32
  ![10, v111.toNat]

def k1_chk12 (v46 : IVec S16 32) (v114 : IVec S16 32) : Prop :=
  (∀ a x, ((![v46, v114] : Fin 2 → IVec S16 32) a x).toNat < S512x128.size a)
theorem k1_idx12_inb : ∀ (v46 : IVec S16 32) (v114 : IVec S16 32) (k1_hw12 : k1_chk12 v46 v114), ∀ a x, ((![v46, v114] : Fin 2 → IVec S16 32) a x).toNat < S512x128.size a := fun v46 v114 k1_hw12 => k1_hw12
def k1_off15 (k1_t2 : Fin k1_t2_loop.trips) : Fin 2 → Nat :=
  let c11_i32_76 : BitVec 32 := 11#32
  let v116 : Index := Scalar.indexCast c11_i32_76
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v117 : Index := Scalar.indexCast v32
  ![11, v117.toNat]

def k1_chk13 (v46 : IVec S16 32) (v120 : IVec S16 32) : Prop :=
  (∀ a x, ((![v46, v120] : Fin 2 → IVec S16 32) a x).toNat < S512x128.size a)
theorem k1_idx13_inb : ∀ (v46 : IVec S16 32) (v120 : IVec S16 32) (k1_hw13 : k1_chk13 v46 v120), ∀ a x, ((![v46, v120] : Fin 2 → IVec S16 32) a x).toNat < S512x128.size a := fun v46 v120 k1_hw13 => k1_hw13
def k1_off16 (k1_t2 : Fin k1_t2_loop.trips) : Fin 2 → Nat :=
  let c12_i32_77 : BitVec 32 := 12#32
  let v122 : Index := Scalar.indexCast c12_i32_77
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v123 : Index := Scalar.indexCast v32
  ![12, v123.toNat]

def k1_chk14 (v46 : IVec S16 32) (v126 : IVec S16 32) : Prop :=
  (∀ a x, ((![v46, v126] : Fin 2 → IVec S16 32) a x).toNat < S512x128.size a)
theorem k1_idx14_inb : ∀ (v46 : IVec S16 32) (v126 : IVec S16 32) (k1_hw14 : k1_chk14 v46 v126), ∀ a x, ((![v46, v126] : Fin 2 → IVec S16 32) a x).toNat < S512x128.size a := fun v46 v126 k1_hw14 => k1_hw14
def k1_off17 (k1_t2 : Fin k1_t2_loop.trips) : Fin 2 → Nat :=
  let c13_i32_78 : BitVec 32 := 13#32
  let v128 : Index := Scalar.indexCast c13_i32_78
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v129 : Index := Scalar.indexCast v32
  ![13, v129.toNat]

def k1_chk15 (v46 : IVec S16 32) (v132 : IVec S16 32) : Prop :=
  (∀ a x, ((![v46, v132] : Fin 2 → IVec S16 32) a x).toNat < S512x128.size a)
theorem k1_idx15_inb : ∀ (v46 : IVec S16 32) (v132 : IVec S16 32) (k1_hw15 : k1_chk15 v46 v132), ∀ a x, ((![v46, v132] : Fin 2 → IVec S16 32) a x).toNat < S512x128.size a := fun v46 v132 k1_hw15 => k1_hw15
def k1_off18 (k1_t2 : Fin k1_t2_loop.trips) : Fin 2 → Nat :=
  let c14_i32_79 : BitVec 32 := 14#32
  let v134 : Index := Scalar.indexCast c14_i32_79
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v135 : Index := Scalar.indexCast v32
  ![14, v135.toNat]

def k1_chk16 (v46 : IVec S16 32) (v138 : IVec S16 32) : Prop :=
  (∀ a x, ((![v46, v138] : Fin 2 → IVec S16 32) a x).toNat < S512x128.size a)
theorem k1_idx16_inb : ∀ (v46 : IVec S16 32) (v138 : IVec S16 32) (k1_hw16 : k1_chk16 v46 v138), ∀ a x, ((![v46, v138] : Fin 2 → IVec S16 32) a x).toNat < S512x128.size a := fun v46 v138 k1_hw16 => k1_hw16
def k1_off19 (k1_t2 : Fin k1_t2_loop.trips) : Fin 2 → Nat :=
  let c15_i32_80 : BitVec 32 := 15#32
  let v140 : Index := Scalar.indexCast c15_i32_80
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v141 : Index := Scalar.indexCast v32
  ![15, v141.toNat]

def k1_chk17 (v46 : IVec S16 32) (v144 : IVec S16 32) : Prop :=
  (∀ a x, ((![v46, v144] : Fin 2 → IVec S16 32) a x).toNat < S512x128.size a)
theorem k1_idx17_inb : ∀ (v46 : IVec S16 32) (v144 : IVec S16 32) (k1_hw17 : k1_chk17 v46 v144), ∀ a x, ((![v46, v144] : Fin 2 → IVec S16 32) a x).toNat < S512x128.size a := fun v46 v144 k1_hw17 => k1_hw17
def k1_off20 (k1_t2 : Fin k1_t2_loop.trips) : Fin 2 → Nat :=
  let c16_i32_82 : BitVec 32 := 16#32
  let v146 : Index := Scalar.indexCast c16_i32_82
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v147 : Index := Scalar.indexCast v32
  ![16, v147.toNat]

def k1_chk18 (v46 : IVec S16 32) (v150 : IVec S16 32) : Prop :=
  (∀ a x, ((![v46, v150] : Fin 2 → IVec S16 32) a x).toNat < S512x128.size a)
theorem k1_idx18_inb : ∀ (v46 : IVec S16 32) (v150 : IVec S16 32) (k1_hw18 : k1_chk18 v46 v150), ∀ a x, ((![v46, v150] : Fin 2 → IVec S16 32) a x).toNat < S512x128.size a := fun v46 v150 k1_hw18 => k1_hw18
def k1_off21 (k1_t2 : Fin k1_t2_loop.trips) : Fin 2 → Nat :=
  let c17_i32_83 : BitVec 32 := 17#32
  let v152 : Index := Scalar.indexCast c17_i32_83
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v153 : Index := Scalar.indexCast v32
  ![17, v153.toNat]

def k1_chk19 (v46 : IVec S16 32) (v156 : IVec S16 32) : Prop :=
  (∀ a x, ((![v46, v156] : Fin 2 → IVec S16 32) a x).toNat < S512x128.size a)
theorem k1_idx19_inb : ∀ (v46 : IVec S16 32) (v156 : IVec S16 32) (k1_hw19 : k1_chk19 v46 v156), ∀ a x, ((![v46, v156] : Fin 2 → IVec S16 32) a x).toNat < S512x128.size a := fun v46 v156 k1_hw19 => k1_hw19
def k1_off22 (k1_t2 : Fin k1_t2_loop.trips) : Fin 2 → Nat :=
  let c18_i32_84 : BitVec 32 := 18#32
  let v158 : Index := Scalar.indexCast c18_i32_84
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v159 : Index := Scalar.indexCast v32
  ![18, v159.toNat]

def k1_chk20 (v46 : IVec S16 32) (v162 : IVec S16 32) : Prop :=
  (∀ a x, ((![v46, v162] : Fin 2 → IVec S16 32) a x).toNat < S512x128.size a)
theorem k1_idx20_inb : ∀ (v46 : IVec S16 32) (v162 : IVec S16 32) (k1_hw20 : k1_chk20 v46 v162), ∀ a x, ((![v46, v162] : Fin 2 → IVec S16 32) a x).toNat < S512x128.size a := fun v46 v162 k1_hw20 => k1_hw20
def k1_off23 (k1_t2 : Fin k1_t2_loop.trips) : Fin 2 → Nat :=
  let c19_i32_85 : BitVec 32 := 19#32
  let v164 : Index := Scalar.indexCast c19_i32_85
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v165 : Index := Scalar.indexCast v32
  ![19, v165.toNat]

def k1_chk21 (v46 : IVec S16 32) (v168 : IVec S16 32) : Prop :=
  (∀ a x, ((![v46, v168] : Fin 2 → IVec S16 32) a x).toNat < S512x128.size a)
theorem k1_idx21_inb : ∀ (v46 : IVec S16 32) (v168 : IVec S16 32) (k1_hw21 : k1_chk21 v46 v168), ∀ a x, ((![v46, v168] : Fin 2 → IVec S16 32) a x).toNat < S512x128.size a := fun v46 v168 k1_hw21 => k1_hw21
def k1_off24 (k1_t2 : Fin k1_t2_loop.trips) : Fin 2 → Nat :=
  let c20_i32_86 : BitVec 32 := 20#32
  let v170 : Index := Scalar.indexCast c20_i32_86
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v171 : Index := Scalar.indexCast v32
  ![20, v171.toNat]

def k1_chk22 (v46 : IVec S16 32) (v174 : IVec S16 32) : Prop :=
  (∀ a x, ((![v46, v174] : Fin 2 → IVec S16 32) a x).toNat < S512x128.size a)
theorem k1_idx22_inb : ∀ (v46 : IVec S16 32) (v174 : IVec S16 32) (k1_hw22 : k1_chk22 v46 v174), ∀ a x, ((![v46, v174] : Fin 2 → IVec S16 32) a x).toNat < S512x128.size a := fun v46 v174 k1_hw22 => k1_hw22
def k1_off25 (k1_t2 : Fin k1_t2_loop.trips) : Fin 2 → Nat :=
  let c21_i32_87 : BitVec 32 := 21#32
  let v176 : Index := Scalar.indexCast c21_i32_87
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v177 : Index := Scalar.indexCast v32
  ![21, v177.toNat]

def k1_chk23 (v46 : IVec S16 32) (v180 : IVec S16 32) : Prop :=
  (∀ a x, ((![v46, v180] : Fin 2 → IVec S16 32) a x).toNat < S512x128.size a)
theorem k1_idx23_inb : ∀ (v46 : IVec S16 32) (v180 : IVec S16 32) (k1_hw23 : k1_chk23 v46 v180), ∀ a x, ((![v46, v180] : Fin 2 → IVec S16 32) a x).toNat < S512x128.size a := fun v46 v180 k1_hw23 => k1_hw23
def k1_off26 (k1_t2 : Fin k1_t2_loop.trips) : Fin 2 → Nat :=
  let c22_i32_88 : BitVec 32 := 22#32
  let v182 : Index := Scalar.indexCast c22_i32_88
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v183 : Index := Scalar.indexCast v32
  ![22, v183.toNat]

def k1_chk24 (v46 : IVec S16 32) (v186 : IVec S16 32) : Prop :=
  (∀ a x, ((![v46, v186] : Fin 2 → IVec S16 32) a x).toNat < S512x128.size a)
theorem k1_idx24_inb : ∀ (v46 : IVec S16 32) (v186 : IVec S16 32) (k1_hw24 : k1_chk24 v46 v186), ∀ a x, ((![v46, v186] : Fin 2 → IVec S16 32) a x).toNat < S512x128.size a := fun v46 v186 k1_hw24 => k1_hw24
def k1_off27 (k1_t2 : Fin k1_t2_loop.trips) : Fin 2 → Nat :=
  let c23_i32_89 : BitVec 32 := 23#32
  let v188 : Index := Scalar.indexCast c23_i32_89
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v189 : Index := Scalar.indexCast v32
  ![23, v189.toNat]

def k1_chk25 (v46 : IVec S16 32) (v192 : IVec S16 32) : Prop :=
  (∀ a x, ((![v46, v192] : Fin 2 → IVec S16 32) a x).toNat < S512x128.size a)
theorem k1_idx25_inb : ∀ (v46 : IVec S16 32) (v192 : IVec S16 32) (k1_hw25 : k1_chk25 v46 v192), ∀ a x, ((![v46, v192] : Fin 2 → IVec S16 32) a x).toNat < S512x128.size a := fun v46 v192 k1_hw25 => k1_hw25
def k1_off28 (k1_t2 : Fin k1_t2_loop.trips) : Fin 2 → Nat :=
  let c24_i32_91 : BitVec 32 := 24#32
  let v194 : Index := Scalar.indexCast c24_i32_91
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v195 : Index := Scalar.indexCast v32
  ![24, v195.toNat]

def k1_chk26 (v46 : IVec S16 32) (v198 : IVec S16 32) : Prop :=
  (∀ a x, ((![v46, v198] : Fin 2 → IVec S16 32) a x).toNat < S512x128.size a)
theorem k1_idx26_inb : ∀ (v46 : IVec S16 32) (v198 : IVec S16 32) (k1_hw26 : k1_chk26 v46 v198), ∀ a x, ((![v46, v198] : Fin 2 → IVec S16 32) a x).toNat < S512x128.size a := fun v46 v198 k1_hw26 => k1_hw26
def k1_off29 (k1_t2 : Fin k1_t2_loop.trips) : Fin 2 → Nat :=
  let c25_i32_92 : BitVec 32 := 25#32
  let v200 : Index := Scalar.indexCast c25_i32_92
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v201 : Index := Scalar.indexCast v32
  ![25, v201.toNat]

def k1_chk27 (v46 : IVec S16 32) (v204 : IVec S16 32) : Prop :=
  (∀ a x, ((![v46, v204] : Fin 2 → IVec S16 32) a x).toNat < S512x128.size a)
theorem k1_idx27_inb : ∀ (v46 : IVec S16 32) (v204 : IVec S16 32) (k1_hw27 : k1_chk27 v46 v204), ∀ a x, ((![v46, v204] : Fin 2 → IVec S16 32) a x).toNat < S512x128.size a := fun v46 v204 k1_hw27 => k1_hw27
def k1_off30 (k1_t2 : Fin k1_t2_loop.trips) : Fin 2 → Nat :=
  let c26_i32_93 : BitVec 32 := 26#32
  let v206 : Index := Scalar.indexCast c26_i32_93
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v207 : Index := Scalar.indexCast v32
  ![26, v207.toNat]

def k1_chk28 (v46 : IVec S16 32) (v210 : IVec S16 32) : Prop :=
  (∀ a x, ((![v46, v210] : Fin 2 → IVec S16 32) a x).toNat < S512x128.size a)
theorem k1_idx28_inb : ∀ (v46 : IVec S16 32) (v210 : IVec S16 32) (k1_hw28 : k1_chk28 v46 v210), ∀ a x, ((![v46, v210] : Fin 2 → IVec S16 32) a x).toNat < S512x128.size a := fun v46 v210 k1_hw28 => k1_hw28
def k1_off31 (k1_t2 : Fin k1_t2_loop.trips) : Fin 2 → Nat :=
  let c27_i32_94 : BitVec 32 := 27#32
  let v212 : Index := Scalar.indexCast c27_i32_94
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v213 : Index := Scalar.indexCast v32
  ![27, v213.toNat]

def k1_chk29 (v46 : IVec S16 32) (v216 : IVec S16 32) : Prop :=
  (∀ a x, ((![v46, v216] : Fin 2 → IVec S16 32) a x).toNat < S512x128.size a)
theorem k1_idx29_inb : ∀ (v46 : IVec S16 32) (v216 : IVec S16 32) (k1_hw29 : k1_chk29 v46 v216), ∀ a x, ((![v46, v216] : Fin 2 → IVec S16 32) a x).toNat < S512x128.size a := fun v46 v216 k1_hw29 => k1_hw29
def k1_off32 (k1_t2 : Fin k1_t2_loop.trips) : Fin 2 → Nat :=
  let c28_i32_95 : BitVec 32 := 28#32
  let v218 : Index := Scalar.indexCast c28_i32_95
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v219 : Index := Scalar.indexCast v32
  ![28, v219.toNat]

def k1_chk30 (v46 : IVec S16 32) (v222 : IVec S16 32) : Prop :=
  (∀ a x, ((![v46, v222] : Fin 2 → IVec S16 32) a x).toNat < S512x128.size a)
theorem k1_idx30_inb : ∀ (v46 : IVec S16 32) (v222 : IVec S16 32) (k1_hw30 : k1_chk30 v46 v222), ∀ a x, ((![v46, v222] : Fin 2 → IVec S16 32) a x).toNat < S512x128.size a := fun v46 v222 k1_hw30 => k1_hw30
def k1_off33 (k1_t2 : Fin k1_t2_loop.trips) : Fin 2 → Nat :=
  let c29_i32_96 : BitVec 32 := 29#32
  let v224 : Index := Scalar.indexCast c29_i32_96
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v225 : Index := Scalar.indexCast v32
  ![29, v225.toNat]

def k1_chk31 (v46 : IVec S16 32) (v228 : IVec S16 32) : Prop :=
  (∀ a x, ((![v46, v228] : Fin 2 → IVec S16 32) a x).toNat < S512x128.size a)
theorem k1_idx31_inb : ∀ (v46 : IVec S16 32) (v228 : IVec S16 32) (k1_hw31 : k1_chk31 v46 v228), ∀ a x, ((![v46, v228] : Fin 2 → IVec S16 32) a x).toNat < S512x128.size a := fun v46 v228 k1_hw31 => k1_hw31
def k1_off34 (k1_t2 : Fin k1_t2_loop.trips) : Fin 2 → Nat :=
  let c30_i32_97 : BitVec 32 := 30#32
  let v230 : Index := Scalar.indexCast c30_i32_97
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v231 : Index := Scalar.indexCast v32
  ![30, v231.toNat]

def k1_chk32 (v46 : IVec S16 32) (v234 : IVec S16 32) : Prop :=
  (∀ a x, ((![v46, v234] : Fin 2 → IVec S16 32) a x).toNat < S512x128.size a)
theorem k1_idx32_inb : ∀ (v46 : IVec S16 32) (v234 : IVec S16 32) (k1_hw32 : k1_chk32 v46 v234), ∀ a x, ((![v46, v234] : Fin 2 → IVec S16 32) a x).toNat < S512x128.size a := fun v46 v234 k1_hw32 => k1_hw32
def k1_off35 (k1_t2 : Fin k1_t2_loop.trips) : Fin 2 → Nat :=
  let c31_i32_98 : BitVec 32 := 31#32
  let v236 : Index := Scalar.indexCast c31_i32_98
  let c0_i32_25 : BitVec 32 := 0#32
  let c1_i32_26 : BitVec 32 := 1#32
  let arg13 : BitVec 32 := Scf.iv c0_i32_25 c1_i32_26 k1_t2
  let c16_i32_56 : BitVec 32 := 16#32
  let v32 : BitVec 32 := Scalar.muli arg13 c16_i32_56
  let v237 : Index := Scalar.indexCast v32
  ![31, v237.toNat]
@[reducible] def k1_t3_loop : Scf.Loop 32 :=
  let c8_i32_34 : BitVec 32 := 8#32
  let c8_i32_35 : BitVec 32 := 8#32
  let v23 : BitVec 32 := Scalar.addi c8_i32_34 c8_i32_35
  let c1_i32_36 : BitVec 32 := 1#32
  ⟨c8_i32_34, v23, c1_i32_36⟩
def k1_off36 (k1_t3 : Fin k1_t3_loop.trips) : Fin 1 → Nat :=
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v33 : Index := Scalar.indexCast v32
  ![v33.toNat]

def k1_chk33 (v46 : IVec S16 32) (v48 : IVec S16 32) : Prop :=
  (∀ a x, ((![v46, v48] : Fin 2 → IVec S16 32) a x).toNat < S512x128.size a)
theorem k1_idx33_inb : ∀ (v46 : IVec S16 32) (v48 : IVec S16 32) (k1_hw33 : k1_chk33 v46 v48), ∀ a x, ((![v46, v48] : Fin 2 → IVec S16 32) a x).toNat < S512x128.size a := fun v46 v48 k1_hw33 => k1_hw33
def k1_off37 (k1_t3 : Fin k1_t3_loop.trips) : Fin 2 → Nat :=
  let c0_i32_61 : BitVec 32 := 0#32
  let v50 : Index := Scalar.indexCast c0_i32_61
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v51 : Index := Scalar.indexCast v32
  ![0, v51.toNat]

def k1_chk34 (v46 : IVec S16 32) (v54 : IVec S16 32) : Prop :=
  (∀ a x, ((![v46, v54] : Fin 2 → IVec S16 32) a x).toNat < S512x128.size a)
theorem k1_idx34_inb : ∀ (v46 : IVec S16 32) (v54 : IVec S16 32) (k1_hw34 : k1_chk34 v46 v54), ∀ a x, ((![v46, v54] : Fin 2 → IVec S16 32) a x).toNat < S512x128.size a := fun v46 v54 k1_hw34 => k1_hw34
def k1_off38 (k1_t3 : Fin k1_t3_loop.trips) : Fin 2 → Nat :=
  let c1_i32_63 : BitVec 32 := 1#32
  let v56 : Index := Scalar.indexCast c1_i32_63
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v57 : Index := Scalar.indexCast v32
  ![1, v57.toNat]

def k1_chk35 (v46 : IVec S16 32) (v60 : IVec S16 32) : Prop :=
  (∀ a x, ((![v46, v60] : Fin 2 → IVec S16 32) a x).toNat < S512x128.size a)
theorem k1_idx35_inb : ∀ (v46 : IVec S16 32) (v60 : IVec S16 32) (k1_hw35 : k1_chk35 v46 v60), ∀ a x, ((![v46, v60] : Fin 2 → IVec S16 32) a x).toNat < S512x128.size a := fun v46 v60 k1_hw35 => k1_hw35
def k1_off39 (k1_t3 : Fin k1_t3_loop.trips) : Fin 2 → Nat :=
  let c2_i32_65 : BitVec 32 := 2#32
  let v62 : Index := Scalar.indexCast c2_i32_65
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v63 : Index := Scalar.indexCast v32
  ![2, v63.toNat]

def k1_chk36 (v46 : IVec S16 32) (v66 : IVec S16 32) : Prop :=
  (∀ a x, ((![v46, v66] : Fin 2 → IVec S16 32) a x).toNat < S512x128.size a)
theorem k1_idx36_inb : ∀ (v46 : IVec S16 32) (v66 : IVec S16 32) (k1_hw36 : k1_chk36 v46 v66), ∀ a x, ((![v46, v66] : Fin 2 → IVec S16 32) a x).toNat < S512x128.size a := fun v46 v66 k1_hw36 => k1_hw36
def k1_off40 (k1_t3 : Fin k1_t3_loop.trips) : Fin 2 → Nat :=
  let c3_i32_66 : BitVec 32 := 3#32
  let v68 : Index := Scalar.indexCast c3_i32_66
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v69 : Index := Scalar.indexCast v32
  ![3, v69.toNat]

def k1_chk37 (v46 : IVec S16 32) (v72 : IVec S16 32) : Prop :=
  (∀ a x, ((![v46, v72] : Fin 2 → IVec S16 32) a x).toNat < S512x128.size a)
theorem k1_idx37_inb : ∀ (v46 : IVec S16 32) (v72 : IVec S16 32) (k1_hw37 : k1_chk37 v46 v72), ∀ a x, ((![v46, v72] : Fin 2 → IVec S16 32) a x).toNat < S512x128.size a := fun v46 v72 k1_hw37 => k1_hw37
def k1_off41 (k1_t3 : Fin k1_t3_loop.trips) : Fin 2 → Nat :=
  let c4_i32_67 : BitVec 32 := 4#32
  let v74 : Index := Scalar.indexCast c4_i32_67
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v75 : Index := Scalar.indexCast v32
  ![4, v75.toNat]

def k1_chk38 (v46 : IVec S16 32) (v78 : IVec S16 32) : Prop :=
  (∀ a x, ((![v46, v78] : Fin 2 → IVec S16 32) a x).toNat < S512x128.size a)
theorem k1_idx38_inb : ∀ (v46 : IVec S16 32) (v78 : IVec S16 32) (k1_hw38 : k1_chk38 v46 v78), ∀ a x, ((![v46, v78] : Fin 2 → IVec S16 32) a x).toNat < S512x128.size a := fun v46 v78 k1_hw38 => k1_hw38
def k1_off42 (k1_t3 : Fin k1_t3_loop.trips) : Fin 2 → Nat :=
  let c5_i32_68 : BitVec 32 := 5#32
  let v80 : Index := Scalar.indexCast c5_i32_68
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v81 : Index := Scalar.indexCast v32
  ![5, v81.toNat]

def k1_chk39 (v46 : IVec S16 32) (v84 : IVec S16 32) : Prop :=
  (∀ a x, ((![v46, v84] : Fin 2 → IVec S16 32) a x).toNat < S512x128.size a)
theorem k1_idx39_inb : ∀ (v46 : IVec S16 32) (v84 : IVec S16 32) (k1_hw39 : k1_chk39 v46 v84), ∀ a x, ((![v46, v84] : Fin 2 → IVec S16 32) a x).toNat < S512x128.size a := fun v46 v84 k1_hw39 => k1_hw39
def k1_off43 (k1_t3 : Fin k1_t3_loop.trips) : Fin 2 → Nat :=
  let c6_i32_69 : BitVec 32 := 6#32
  let v86 : Index := Scalar.indexCast c6_i32_69
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v87 : Index := Scalar.indexCast v32
  ![6, v87.toNat]

def k1_chk40 (v46 : IVec S16 32) (v90 : IVec S16 32) : Prop :=
  (∀ a x, ((![v46, v90] : Fin 2 → IVec S16 32) a x).toNat < S512x128.size a)
theorem k1_idx40_inb : ∀ (v46 : IVec S16 32) (v90 : IVec S16 32) (k1_hw40 : k1_chk40 v46 v90), ∀ a x, ((![v46, v90] : Fin 2 → IVec S16 32) a x).toNat < S512x128.size a := fun v46 v90 k1_hw40 => k1_hw40
def k1_off44 (k1_t3 : Fin k1_t3_loop.trips) : Fin 2 → Nat :=
  let c7_i32_70 : BitVec 32 := 7#32
  let v92 : Index := Scalar.indexCast c7_i32_70
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v93 : Index := Scalar.indexCast v32
  ![7, v93.toNat]

def k1_chk41 (v46 : IVec S16 32) (v96 : IVec S16 32) : Prop :=
  (∀ a x, ((![v46, v96] : Fin 2 → IVec S16 32) a x).toNat < S512x128.size a)
theorem k1_idx41_inb : ∀ (v46 : IVec S16 32) (v96 : IVec S16 32) (k1_hw41 : k1_chk41 v46 v96), ∀ a x, ((![v46, v96] : Fin 2 → IVec S16 32) a x).toNat < S512x128.size a := fun v46 v96 k1_hw41 => k1_hw41
def k1_off45 (k1_t3 : Fin k1_t3_loop.trips) : Fin 2 → Nat :=
  let c8_i32_72 : BitVec 32 := 8#32
  let v98 : Index := Scalar.indexCast c8_i32_72
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v99 : Index := Scalar.indexCast v32
  ![8, v99.toNat]

def k1_chk42 (v46 : IVec S16 32) (v102 : IVec S16 32) : Prop :=
  (∀ a x, ((![v46, v102] : Fin 2 → IVec S16 32) a x).toNat < S512x128.size a)
theorem k1_idx42_inb : ∀ (v46 : IVec S16 32) (v102 : IVec S16 32) (k1_hw42 : k1_chk42 v46 v102), ∀ a x, ((![v46, v102] : Fin 2 → IVec S16 32) a x).toNat < S512x128.size a := fun v46 v102 k1_hw42 => k1_hw42
def k1_off46 (k1_t3 : Fin k1_t3_loop.trips) : Fin 2 → Nat :=
  let c9_i32_74 : BitVec 32 := 9#32
  let v104 : Index := Scalar.indexCast c9_i32_74
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v105 : Index := Scalar.indexCast v32
  ![9, v105.toNat]

def k1_chk43 (v46 : IVec S16 32) (v108 : IVec S16 32) : Prop :=
  (∀ a x, ((![v46, v108] : Fin 2 → IVec S16 32) a x).toNat < S512x128.size a)
theorem k1_idx43_inb : ∀ (v46 : IVec S16 32) (v108 : IVec S16 32) (k1_hw43 : k1_chk43 v46 v108), ∀ a x, ((![v46, v108] : Fin 2 → IVec S16 32) a x).toNat < S512x128.size a := fun v46 v108 k1_hw43 => k1_hw43
def k1_off47 (k1_t3 : Fin k1_t3_loop.trips) : Fin 2 → Nat :=
  let c10_i32_75 : BitVec 32 := 10#32
  let v110 : Index := Scalar.indexCast c10_i32_75
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v111 : Index := Scalar.indexCast v32
  ![10, v111.toNat]

def k1_chk44 (v46 : IVec S16 32) (v114 : IVec S16 32) : Prop :=
  (∀ a x, ((![v46, v114] : Fin 2 → IVec S16 32) a x).toNat < S512x128.size a)
theorem k1_idx44_inb : ∀ (v46 : IVec S16 32) (v114 : IVec S16 32) (k1_hw44 : k1_chk44 v46 v114), ∀ a x, ((![v46, v114] : Fin 2 → IVec S16 32) a x).toNat < S512x128.size a := fun v46 v114 k1_hw44 => k1_hw44
def k1_off48 (k1_t3 : Fin k1_t3_loop.trips) : Fin 2 → Nat :=
  let c11_i32_76 : BitVec 32 := 11#32
  let v116 : Index := Scalar.indexCast c11_i32_76
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v117 : Index := Scalar.indexCast v32
  ![11, v117.toNat]

def k1_chk45 (v46 : IVec S16 32) (v120 : IVec S16 32) : Prop :=
  (∀ a x, ((![v46, v120] : Fin 2 → IVec S16 32) a x).toNat < S512x128.size a)
theorem k1_idx45_inb : ∀ (v46 : IVec S16 32) (v120 : IVec S16 32) (k1_hw45 : k1_chk45 v46 v120), ∀ a x, ((![v46, v120] : Fin 2 → IVec S16 32) a x).toNat < S512x128.size a := fun v46 v120 k1_hw45 => k1_hw45
def k1_off49 (k1_t3 : Fin k1_t3_loop.trips) : Fin 2 → Nat :=
  let c12_i32_77 : BitVec 32 := 12#32
  let v122 : Index := Scalar.indexCast c12_i32_77
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v123 : Index := Scalar.indexCast v32
  ![12, v123.toNat]

def k1_chk46 (v46 : IVec S16 32) (v126 : IVec S16 32) : Prop :=
  (∀ a x, ((![v46, v126] : Fin 2 → IVec S16 32) a x).toNat < S512x128.size a)
theorem k1_idx46_inb : ∀ (v46 : IVec S16 32) (v126 : IVec S16 32) (k1_hw46 : k1_chk46 v46 v126), ∀ a x, ((![v46, v126] : Fin 2 → IVec S16 32) a x).toNat < S512x128.size a := fun v46 v126 k1_hw46 => k1_hw46
def k1_off50 (k1_t3 : Fin k1_t3_loop.trips) : Fin 2 → Nat :=
  let c13_i32_78 : BitVec 32 := 13#32
  let v128 : Index := Scalar.indexCast c13_i32_78
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v129 : Index := Scalar.indexCast v32
  ![13, v129.toNat]

def k1_chk47 (v46 : IVec S16 32) (v132 : IVec S16 32) : Prop :=
  (∀ a x, ((![v46, v132] : Fin 2 → IVec S16 32) a x).toNat < S512x128.size a)
theorem k1_idx47_inb : ∀ (v46 : IVec S16 32) (v132 : IVec S16 32) (k1_hw47 : k1_chk47 v46 v132), ∀ a x, ((![v46, v132] : Fin 2 → IVec S16 32) a x).toNat < S512x128.size a := fun v46 v132 k1_hw47 => k1_hw47
def k1_off51 (k1_t3 : Fin k1_t3_loop.trips) : Fin 2 → Nat :=
  let c14_i32_79 : BitVec 32 := 14#32
  let v134 : Index := Scalar.indexCast c14_i32_79
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v135 : Index := Scalar.indexCast v32
  ![14, v135.toNat]

def k1_chk48 (v46 : IVec S16 32) (v138 : IVec S16 32) : Prop :=
  (∀ a x, ((![v46, v138] : Fin 2 → IVec S16 32) a x).toNat < S512x128.size a)
theorem k1_idx48_inb : ∀ (v46 : IVec S16 32) (v138 : IVec S16 32) (k1_hw48 : k1_chk48 v46 v138), ∀ a x, ((![v46, v138] : Fin 2 → IVec S16 32) a x).toNat < S512x128.size a := fun v46 v138 k1_hw48 => k1_hw48
def k1_off52 (k1_t3 : Fin k1_t3_loop.trips) : Fin 2 → Nat :=
  let c15_i32_80 : BitVec 32 := 15#32
  let v140 : Index := Scalar.indexCast c15_i32_80
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v141 : Index := Scalar.indexCast v32
  ![15, v141.toNat]

def k1_chk49 (v46 : IVec S16 32) (v144 : IVec S16 32) : Prop :=
  (∀ a x, ((![v46, v144] : Fin 2 → IVec S16 32) a x).toNat < S512x128.size a)
theorem k1_idx49_inb : ∀ (v46 : IVec S16 32) (v144 : IVec S16 32) (k1_hw49 : k1_chk49 v46 v144), ∀ a x, ((![v46, v144] : Fin 2 → IVec S16 32) a x).toNat < S512x128.size a := fun v46 v144 k1_hw49 => k1_hw49
def k1_off53 (k1_t3 : Fin k1_t3_loop.trips) : Fin 2 → Nat :=
  let c16_i32_82 : BitVec 32 := 16#32
  let v146 : Index := Scalar.indexCast c16_i32_82
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v147 : Index := Scalar.indexCast v32
  ![16, v147.toNat]

def k1_chk50 (v46 : IVec S16 32) (v150 : IVec S16 32) : Prop :=
  (∀ a x, ((![v46, v150] : Fin 2 → IVec S16 32) a x).toNat < S512x128.size a)
theorem k1_idx50_inb : ∀ (v46 : IVec S16 32) (v150 : IVec S16 32) (k1_hw50 : k1_chk50 v46 v150), ∀ a x, ((![v46, v150] : Fin 2 → IVec S16 32) a x).toNat < S512x128.size a := fun v46 v150 k1_hw50 => k1_hw50
def k1_off54 (k1_t3 : Fin k1_t3_loop.trips) : Fin 2 → Nat :=
  let c17_i32_83 : BitVec 32 := 17#32
  let v152 : Index := Scalar.indexCast c17_i32_83
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v153 : Index := Scalar.indexCast v32
  ![17, v153.toNat]

def k1_chk51 (v46 : IVec S16 32) (v156 : IVec S16 32) : Prop :=
  (∀ a x, ((![v46, v156] : Fin 2 → IVec S16 32) a x).toNat < S512x128.size a)
theorem k1_idx51_inb : ∀ (v46 : IVec S16 32) (v156 : IVec S16 32) (k1_hw51 : k1_chk51 v46 v156), ∀ a x, ((![v46, v156] : Fin 2 → IVec S16 32) a x).toNat < S512x128.size a := fun v46 v156 k1_hw51 => k1_hw51
def k1_off55 (k1_t3 : Fin k1_t3_loop.trips) : Fin 2 → Nat :=
  let c18_i32_84 : BitVec 32 := 18#32
  let v158 : Index := Scalar.indexCast c18_i32_84
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v159 : Index := Scalar.indexCast v32
  ![18, v159.toNat]

def k1_chk52 (v46 : IVec S16 32) (v162 : IVec S16 32) : Prop :=
  (∀ a x, ((![v46, v162] : Fin 2 → IVec S16 32) a x).toNat < S512x128.size a)
theorem k1_idx52_inb : ∀ (v46 : IVec S16 32) (v162 : IVec S16 32) (k1_hw52 : k1_chk52 v46 v162), ∀ a x, ((![v46, v162] : Fin 2 → IVec S16 32) a x).toNat < S512x128.size a := fun v46 v162 k1_hw52 => k1_hw52
def k1_off56 (k1_t3 : Fin k1_t3_loop.trips) : Fin 2 → Nat :=
  let c19_i32_85 : BitVec 32 := 19#32
  let v164 : Index := Scalar.indexCast c19_i32_85
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v165 : Index := Scalar.indexCast v32
  ![19, v165.toNat]

def k1_chk53 (v46 : IVec S16 32) (v168 : IVec S16 32) : Prop :=
  (∀ a x, ((![v46, v168] : Fin 2 → IVec S16 32) a x).toNat < S512x128.size a)
theorem k1_idx53_inb : ∀ (v46 : IVec S16 32) (v168 : IVec S16 32) (k1_hw53 : k1_chk53 v46 v168), ∀ a x, ((![v46, v168] : Fin 2 → IVec S16 32) a x).toNat < S512x128.size a := fun v46 v168 k1_hw53 => k1_hw53
def k1_off57 (k1_t3 : Fin k1_t3_loop.trips) : Fin 2 → Nat :=
  let c20_i32_86 : BitVec 32 := 20#32
  let v170 : Index := Scalar.indexCast c20_i32_86
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v171 : Index := Scalar.indexCast v32
  ![20, v171.toNat]

def k1_chk54 (v46 : IVec S16 32) (v174 : IVec S16 32) : Prop :=
  (∀ a x, ((![v46, v174] : Fin 2 → IVec S16 32) a x).toNat < S512x128.size a)
theorem k1_idx54_inb : ∀ (v46 : IVec S16 32) (v174 : IVec S16 32) (k1_hw54 : k1_chk54 v46 v174), ∀ a x, ((![v46, v174] : Fin 2 → IVec S16 32) a x).toNat < S512x128.size a := fun v46 v174 k1_hw54 => k1_hw54
def k1_off58 (k1_t3 : Fin k1_t3_loop.trips) : Fin 2 → Nat :=
  let c21_i32_87 : BitVec 32 := 21#32
  let v176 : Index := Scalar.indexCast c21_i32_87
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v177 : Index := Scalar.indexCast v32
  ![21, v177.toNat]

def k1_chk55 (v46 : IVec S16 32) (v180 : IVec S16 32) : Prop :=
  (∀ a x, ((![v46, v180] : Fin 2 → IVec S16 32) a x).toNat < S512x128.size a)
theorem k1_idx55_inb : ∀ (v46 : IVec S16 32) (v180 : IVec S16 32) (k1_hw55 : k1_chk55 v46 v180), ∀ a x, ((![v46, v180] : Fin 2 → IVec S16 32) a x).toNat < S512x128.size a := fun v46 v180 k1_hw55 => k1_hw55
def k1_off59 (k1_t3 : Fin k1_t3_loop.trips) : Fin 2 → Nat :=
  let c22_i32_88 : BitVec 32 := 22#32
  let v182 : Index := Scalar.indexCast c22_i32_88
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v183 : Index := Scalar.indexCast v32
  ![22, v183.toNat]

def k1_chk56 (v46 : IVec S16 32) (v186 : IVec S16 32) : Prop :=
  (∀ a x, ((![v46, v186] : Fin 2 → IVec S16 32) a x).toNat < S512x128.size a)
theorem k1_idx56_inb : ∀ (v46 : IVec S16 32) (v186 : IVec S16 32) (k1_hw56 : k1_chk56 v46 v186), ∀ a x, ((![v46, v186] : Fin 2 → IVec S16 32) a x).toNat < S512x128.size a := fun v46 v186 k1_hw56 => k1_hw56
def k1_off60 (k1_t3 : Fin k1_t3_loop.trips) : Fin 2 → Nat :=
  let c23_i32_89 : BitVec 32 := 23#32
  let v188 : Index := Scalar.indexCast c23_i32_89
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v189 : Index := Scalar.indexCast v32
  ![23, v189.toNat]

def k1_chk57 (v46 : IVec S16 32) (v192 : IVec S16 32) : Prop :=
  (∀ a x, ((![v46, v192] : Fin 2 → IVec S16 32) a x).toNat < S512x128.size a)
theorem k1_idx57_inb : ∀ (v46 : IVec S16 32) (v192 : IVec S16 32) (k1_hw57 : k1_chk57 v46 v192), ∀ a x, ((![v46, v192] : Fin 2 → IVec S16 32) a x).toNat < S512x128.size a := fun v46 v192 k1_hw57 => k1_hw57
def k1_off61 (k1_t3 : Fin k1_t3_loop.trips) : Fin 2 → Nat :=
  let c24_i32_91 : BitVec 32 := 24#32
  let v194 : Index := Scalar.indexCast c24_i32_91
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v195 : Index := Scalar.indexCast v32
  ![24, v195.toNat]

def k1_chk58 (v46 : IVec S16 32) (v198 : IVec S16 32) : Prop :=
  (∀ a x, ((![v46, v198] : Fin 2 → IVec S16 32) a x).toNat < S512x128.size a)
theorem k1_idx58_inb : ∀ (v46 : IVec S16 32) (v198 : IVec S16 32) (k1_hw58 : k1_chk58 v46 v198), ∀ a x, ((![v46, v198] : Fin 2 → IVec S16 32) a x).toNat < S512x128.size a := fun v46 v198 k1_hw58 => k1_hw58
def k1_off62 (k1_t3 : Fin k1_t3_loop.trips) : Fin 2 → Nat :=
  let c25_i32_92 : BitVec 32 := 25#32
  let v200 : Index := Scalar.indexCast c25_i32_92
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v201 : Index := Scalar.indexCast v32
  ![25, v201.toNat]

def k1_chk59 (v46 : IVec S16 32) (v204 : IVec S16 32) : Prop :=
  (∀ a x, ((![v46, v204] : Fin 2 → IVec S16 32) a x).toNat < S512x128.size a)
theorem k1_idx59_inb : ∀ (v46 : IVec S16 32) (v204 : IVec S16 32) (k1_hw59 : k1_chk59 v46 v204), ∀ a x, ((![v46, v204] : Fin 2 → IVec S16 32) a x).toNat < S512x128.size a := fun v46 v204 k1_hw59 => k1_hw59
def k1_off63 (k1_t3 : Fin k1_t3_loop.trips) : Fin 2 → Nat :=
  let c26_i32_93 : BitVec 32 := 26#32
  let v206 : Index := Scalar.indexCast c26_i32_93
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v207 : Index := Scalar.indexCast v32
  ![26, v207.toNat]

def k1_chk60 (v46 : IVec S16 32) (v210 : IVec S16 32) : Prop :=
  (∀ a x, ((![v46, v210] : Fin 2 → IVec S16 32) a x).toNat < S512x128.size a)
theorem k1_idx60_inb : ∀ (v46 : IVec S16 32) (v210 : IVec S16 32) (k1_hw60 : k1_chk60 v46 v210), ∀ a x, ((![v46, v210] : Fin 2 → IVec S16 32) a x).toNat < S512x128.size a := fun v46 v210 k1_hw60 => k1_hw60
def k1_off64 (k1_t3 : Fin k1_t3_loop.trips) : Fin 2 → Nat :=
  let c27_i32_94 : BitVec 32 := 27#32
  let v212 : Index := Scalar.indexCast c27_i32_94
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v213 : Index := Scalar.indexCast v32
  ![27, v213.toNat]

def k1_chk61 (v46 : IVec S16 32) (v216 : IVec S16 32) : Prop :=
  (∀ a x, ((![v46, v216] : Fin 2 → IVec S16 32) a x).toNat < S512x128.size a)
theorem k1_idx61_inb : ∀ (v46 : IVec S16 32) (v216 : IVec S16 32) (k1_hw61 : k1_chk61 v46 v216), ∀ a x, ((![v46, v216] : Fin 2 → IVec S16 32) a x).toNat < S512x128.size a := fun v46 v216 k1_hw61 => k1_hw61
def k1_off65 (k1_t3 : Fin k1_t3_loop.trips) : Fin 2 → Nat :=
  let c28_i32_95 : BitVec 32 := 28#32
  let v218 : Index := Scalar.indexCast c28_i32_95
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v219 : Index := Scalar.indexCast v32
  ![28, v219.toNat]

def k1_chk62 (v46 : IVec S16 32) (v222 : IVec S16 32) : Prop :=
  (∀ a x, ((![v46, v222] : Fin 2 → IVec S16 32) a x).toNat < S512x128.size a)
theorem k1_idx62_inb : ∀ (v46 : IVec S16 32) (v222 : IVec S16 32) (k1_hw62 : k1_chk62 v46 v222), ∀ a x, ((![v46, v222] : Fin 2 → IVec S16 32) a x).toNat < S512x128.size a := fun v46 v222 k1_hw62 => k1_hw62
def k1_off66 (k1_t3 : Fin k1_t3_loop.trips) : Fin 2 → Nat :=
  let c29_i32_96 : BitVec 32 := 29#32
  let v224 : Index := Scalar.indexCast c29_i32_96
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v225 : Index := Scalar.indexCast v32
  ![29, v225.toNat]

def k1_chk63 (v46 : IVec S16 32) (v228 : IVec S16 32) : Prop :=
  (∀ a x, ((![v46, v228] : Fin 2 → IVec S16 32) a x).toNat < S512x128.size a)
theorem k1_idx63_inb : ∀ (v46 : IVec S16 32) (v228 : IVec S16 32) (k1_hw63 : k1_chk63 v46 v228), ∀ a x, ((![v46, v228] : Fin 2 → IVec S16 32) a x).toNat < S512x128.size a := fun v46 v228 k1_hw63 => k1_hw63
def k1_off67 (k1_t3 : Fin k1_t3_loop.trips) : Fin 2 → Nat :=
  let c30_i32_97 : BitVec 32 := 30#32
  let v230 : Index := Scalar.indexCast c30_i32_97
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v231 : Index := Scalar.indexCast v32
  ![30, v231.toNat]

def k1_chk64 (v46 : IVec S16 32) (v234 : IVec S16 32) : Prop :=
  (∀ a x, ((![v46, v234] : Fin 2 → IVec S16 32) a x).toNat < S512x128.size a)
theorem k1_idx64_inb : ∀ (v46 : IVec S16 32) (v234 : IVec S16 32) (k1_hw64 : k1_chk64 v46 v234), ∀ a x, ((![v46, v234] : Fin 2 → IVec S16 32) a x).toNat < S512x128.size a := fun v46 v234 k1_hw64 => k1_hw64
def k1_off68 (k1_t3 : Fin k1_t3_loop.trips) : Fin 2 → Nat :=
  let c31_i32_98 : BitVec 32 := 31#32
  let v236 : Index := Scalar.indexCast c31_i32_98
  let c8_i32_34 : BitVec 32 := 8#32
  let c1_i32_36 : BitVec 32 := 1#32
  let arg13 : BitVec 32 := Scf.iv c8_i32_34 c1_i32_36 k1_t3
  let c16_i32_56 : BitVec 32 := 16#32
  let v32 : BitVec 32 := Scalar.muli arg13 c16_i32_56
  let v237 : Index := Scalar.indexCast v32
  ![31, v237.toNat]
@[reducible] def k1_t4_loop : Scf.Loop 32 :=
  let c16_i32 : BitVec 32 := 16#32
  let c8_i32_44 : BitVec 32 := 8#32
  let v27 : BitVec 32 := Scalar.addi c16_i32 c8_i32_44
  let c1_i32_45 : BitVec 32 := 1#32
  ⟨c16_i32, v27, c1_i32_45⟩
def k1_off69 (k1_t4 : Fin k1_t4_loop.trips) : Fin 1 → Nat :=
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v33 : Index := Scalar.indexCast v32
  ![v33.toNat]

def k1_chk65 (v46 : IVec S16 32) (v48 : IVec S16 32) : Prop :=
  (∀ a x, ((![v46, v48] : Fin 2 → IVec S16 32) a x).toNat < S512x128.size a)
theorem k1_idx65_inb : ∀ (v46 : IVec S16 32) (v48 : IVec S16 32) (k1_hw65 : k1_chk65 v46 v48), ∀ a x, ((![v46, v48] : Fin 2 → IVec S16 32) a x).toNat < S512x128.size a := fun v46 v48 k1_hw65 => k1_hw65
def k1_off70 (k1_t4 : Fin k1_t4_loop.trips) : Fin 2 → Nat :=
  let c0_i32_61 : BitVec 32 := 0#32
  let v50 : Index := Scalar.indexCast c0_i32_61
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v51 : Index := Scalar.indexCast v32
  ![0, v51.toNat]

def k1_chk66 (v46 : IVec S16 32) (v54 : IVec S16 32) : Prop :=
  (∀ a x, ((![v46, v54] : Fin 2 → IVec S16 32) a x).toNat < S512x128.size a)
theorem k1_idx66_inb : ∀ (v46 : IVec S16 32) (v54 : IVec S16 32) (k1_hw66 : k1_chk66 v46 v54), ∀ a x, ((![v46, v54] : Fin 2 → IVec S16 32) a x).toNat < S512x128.size a := fun v46 v54 k1_hw66 => k1_hw66
def k1_off71 (k1_t4 : Fin k1_t4_loop.trips) : Fin 2 → Nat :=
  let c1_i32_63 : BitVec 32 := 1#32
  let v56 : Index := Scalar.indexCast c1_i32_63
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v57 : Index := Scalar.indexCast v32
  ![1, v57.toNat]

def k1_chk67 (v46 : IVec S16 32) (v60 : IVec S16 32) : Prop :=
  (∀ a x, ((![v46, v60] : Fin 2 → IVec S16 32) a x).toNat < S512x128.size a)
theorem k1_idx67_inb : ∀ (v46 : IVec S16 32) (v60 : IVec S16 32) (k1_hw67 : k1_chk67 v46 v60), ∀ a x, ((![v46, v60] : Fin 2 → IVec S16 32) a x).toNat < S512x128.size a := fun v46 v60 k1_hw67 => k1_hw67
def k1_off72 (k1_t4 : Fin k1_t4_loop.trips) : Fin 2 → Nat :=
  let c2_i32_65 : BitVec 32 := 2#32
  let v62 : Index := Scalar.indexCast c2_i32_65
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v63 : Index := Scalar.indexCast v32
  ![2, v63.toNat]

def k1_chk68 (v46 : IVec S16 32) (v66 : IVec S16 32) : Prop :=
  (∀ a x, ((![v46, v66] : Fin 2 → IVec S16 32) a x).toNat < S512x128.size a)
theorem k1_idx68_inb : ∀ (v46 : IVec S16 32) (v66 : IVec S16 32) (k1_hw68 : k1_chk68 v46 v66), ∀ a x, ((![v46, v66] : Fin 2 → IVec S16 32) a x).toNat < S512x128.size a := fun v46 v66 k1_hw68 => k1_hw68
def k1_off73 (k1_t4 : Fin k1_t4_loop.trips) : Fin 2 → Nat :=
  let c3_i32_66 : BitVec 32 := 3#32
  let v68 : Index := Scalar.indexCast c3_i32_66
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v69 : Index := Scalar.indexCast v32
  ![3, v69.toNat]

def k1_chk69 (v46 : IVec S16 32) (v72 : IVec S16 32) : Prop :=
  (∀ a x, ((![v46, v72] : Fin 2 → IVec S16 32) a x).toNat < S512x128.size a)
theorem k1_idx69_inb : ∀ (v46 : IVec S16 32) (v72 : IVec S16 32) (k1_hw69 : k1_chk69 v46 v72), ∀ a x, ((![v46, v72] : Fin 2 → IVec S16 32) a x).toNat < S512x128.size a := fun v46 v72 k1_hw69 => k1_hw69
def k1_off74 (k1_t4 : Fin k1_t4_loop.trips) : Fin 2 → Nat :=
  let c4_i32_67 : BitVec 32 := 4#32
  let v74 : Index := Scalar.indexCast c4_i32_67
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v75 : Index := Scalar.indexCast v32
  ![4, v75.toNat]

def k1_chk70 (v46 : IVec S16 32) (v78 : IVec S16 32) : Prop :=
  (∀ a x, ((![v46, v78] : Fin 2 → IVec S16 32) a x).toNat < S512x128.size a)
theorem k1_idx70_inb : ∀ (v46 : IVec S16 32) (v78 : IVec S16 32) (k1_hw70 : k1_chk70 v46 v78), ∀ a x, ((![v46, v78] : Fin 2 → IVec S16 32) a x).toNat < S512x128.size a := fun v46 v78 k1_hw70 => k1_hw70
def k1_off75 (k1_t4 : Fin k1_t4_loop.trips) : Fin 2 → Nat :=
  let c5_i32_68 : BitVec 32 := 5#32
  let v80 : Index := Scalar.indexCast c5_i32_68
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v81 : Index := Scalar.indexCast v32
  ![5, v81.toNat]

def k1_chk71 (v46 : IVec S16 32) (v84 : IVec S16 32) : Prop :=
  (∀ a x, ((![v46, v84] : Fin 2 → IVec S16 32) a x).toNat < S512x128.size a)
theorem k1_idx71_inb : ∀ (v46 : IVec S16 32) (v84 : IVec S16 32) (k1_hw71 : k1_chk71 v46 v84), ∀ a x, ((![v46, v84] : Fin 2 → IVec S16 32) a x).toNat < S512x128.size a := fun v46 v84 k1_hw71 => k1_hw71
def k1_off76 (k1_t4 : Fin k1_t4_loop.trips) : Fin 2 → Nat :=
  let c6_i32_69 : BitVec 32 := 6#32
  let v86 : Index := Scalar.indexCast c6_i32_69
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v87 : Index := Scalar.indexCast v32
  ![6, v87.toNat]

def k1_chk72 (v46 : IVec S16 32) (v90 : IVec S16 32) : Prop :=
  (∀ a x, ((![v46, v90] : Fin 2 → IVec S16 32) a x).toNat < S512x128.size a)
theorem k1_idx72_inb : ∀ (v46 : IVec S16 32) (v90 : IVec S16 32) (k1_hw72 : k1_chk72 v46 v90), ∀ a x, ((![v46, v90] : Fin 2 → IVec S16 32) a x).toNat < S512x128.size a := fun v46 v90 k1_hw72 => k1_hw72
def k1_off77 (k1_t4 : Fin k1_t4_loop.trips) : Fin 2 → Nat :=
  let c7_i32_70 : BitVec 32 := 7#32
  let v92 : Index := Scalar.indexCast c7_i32_70
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v93 : Index := Scalar.indexCast v32
  ![7, v93.toNat]

def k1_chk73 (v46 : IVec S16 32) (v96 : IVec S16 32) : Prop :=
  (∀ a x, ((![v46, v96] : Fin 2 → IVec S16 32) a x).toNat < S512x128.size a)
theorem k1_idx73_inb : ∀ (v46 : IVec S16 32) (v96 : IVec S16 32) (k1_hw73 : k1_chk73 v46 v96), ∀ a x, ((![v46, v96] : Fin 2 → IVec S16 32) a x).toNat < S512x128.size a := fun v46 v96 k1_hw73 => k1_hw73
def k1_off78 (k1_t4 : Fin k1_t4_loop.trips) : Fin 2 → Nat :=
  let c8_i32_72 : BitVec 32 := 8#32
  let v98 : Index := Scalar.indexCast c8_i32_72
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v99 : Index := Scalar.indexCast v32
  ![8, v99.toNat]

def k1_chk74 (v46 : IVec S16 32) (v102 : IVec S16 32) : Prop :=
  (∀ a x, ((![v46, v102] : Fin 2 → IVec S16 32) a x).toNat < S512x128.size a)
theorem k1_idx74_inb : ∀ (v46 : IVec S16 32) (v102 : IVec S16 32) (k1_hw74 : k1_chk74 v46 v102), ∀ a x, ((![v46, v102] : Fin 2 → IVec S16 32) a x).toNat < S512x128.size a := fun v46 v102 k1_hw74 => k1_hw74
def k1_off79 (k1_t4 : Fin k1_t4_loop.trips) : Fin 2 → Nat :=
  let c9_i32_74 : BitVec 32 := 9#32
  let v104 : Index := Scalar.indexCast c9_i32_74
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v105 : Index := Scalar.indexCast v32
  ![9, v105.toNat]

def k1_chk75 (v46 : IVec S16 32) (v108 : IVec S16 32) : Prop :=
  (∀ a x, ((![v46, v108] : Fin 2 → IVec S16 32) a x).toNat < S512x128.size a)
theorem k1_idx75_inb : ∀ (v46 : IVec S16 32) (v108 : IVec S16 32) (k1_hw75 : k1_chk75 v46 v108), ∀ a x, ((![v46, v108] : Fin 2 → IVec S16 32) a x).toNat < S512x128.size a := fun v46 v108 k1_hw75 => k1_hw75
def k1_off80 (k1_t4 : Fin k1_t4_loop.trips) : Fin 2 → Nat :=
  let c10_i32_75 : BitVec 32 := 10#32
  let v110 : Index := Scalar.indexCast c10_i32_75
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v111 : Index := Scalar.indexCast v32
  ![10, v111.toNat]

def k1_chk76 (v46 : IVec S16 32) (v114 : IVec S16 32) : Prop :=
  (∀ a x, ((![v46, v114] : Fin 2 → IVec S16 32) a x).toNat < S512x128.size a)
theorem k1_idx76_inb : ∀ (v46 : IVec S16 32) (v114 : IVec S16 32) (k1_hw76 : k1_chk76 v46 v114), ∀ a x, ((![v46, v114] : Fin 2 → IVec S16 32) a x).toNat < S512x128.size a := fun v46 v114 k1_hw76 => k1_hw76
def k1_off81 (k1_t4 : Fin k1_t4_loop.trips) : Fin 2 → Nat :=
  let c11_i32_76 : BitVec 32 := 11#32
  let v116 : Index := Scalar.indexCast c11_i32_76
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v117 : Index := Scalar.indexCast v32
  ![11, v117.toNat]

def k1_chk77 (v46 : IVec S16 32) (v120 : IVec S16 32) : Prop :=
  (∀ a x, ((![v46, v120] : Fin 2 → IVec S16 32) a x).toNat < S512x128.size a)
theorem k1_idx77_inb : ∀ (v46 : IVec S16 32) (v120 : IVec S16 32) (k1_hw77 : k1_chk77 v46 v120), ∀ a x, ((![v46, v120] : Fin 2 → IVec S16 32) a x).toNat < S512x128.size a := fun v46 v120 k1_hw77 => k1_hw77
def k1_off82 (k1_t4 : Fin k1_t4_loop.trips) : Fin 2 → Nat :=
  let c12_i32_77 : BitVec 32 := 12#32
  let v122 : Index := Scalar.indexCast c12_i32_77
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v123 : Index := Scalar.indexCast v32
  ![12, v123.toNat]

def k1_chk78 (v46 : IVec S16 32) (v126 : IVec S16 32) : Prop :=
  (∀ a x, ((![v46, v126] : Fin 2 → IVec S16 32) a x).toNat < S512x128.size a)
theorem k1_idx78_inb : ∀ (v46 : IVec S16 32) (v126 : IVec S16 32) (k1_hw78 : k1_chk78 v46 v126), ∀ a x, ((![v46, v126] : Fin 2 → IVec S16 32) a x).toNat < S512x128.size a := fun v46 v126 k1_hw78 => k1_hw78
def k1_off83 (k1_t4 : Fin k1_t4_loop.trips) : Fin 2 → Nat :=
  let c13_i32_78 : BitVec 32 := 13#32
  let v128 : Index := Scalar.indexCast c13_i32_78
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v129 : Index := Scalar.indexCast v32
  ![13, v129.toNat]

def k1_chk79 (v46 : IVec S16 32) (v132 : IVec S16 32) : Prop :=
  (∀ a x, ((![v46, v132] : Fin 2 → IVec S16 32) a x).toNat < S512x128.size a)
theorem k1_idx79_inb : ∀ (v46 : IVec S16 32) (v132 : IVec S16 32) (k1_hw79 : k1_chk79 v46 v132), ∀ a x, ((![v46, v132] : Fin 2 → IVec S16 32) a x).toNat < S512x128.size a := fun v46 v132 k1_hw79 => k1_hw79
def k1_off84 (k1_t4 : Fin k1_t4_loop.trips) : Fin 2 → Nat :=
  let c14_i32_79 : BitVec 32 := 14#32
  let v134 : Index := Scalar.indexCast c14_i32_79
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v135 : Index := Scalar.indexCast v32
  ![14, v135.toNat]

def k1_chk80 (v46 : IVec S16 32) (v138 : IVec S16 32) : Prop :=
  (∀ a x, ((![v46, v138] : Fin 2 → IVec S16 32) a x).toNat < S512x128.size a)
theorem k1_idx80_inb : ∀ (v46 : IVec S16 32) (v138 : IVec S16 32) (k1_hw80 : k1_chk80 v46 v138), ∀ a x, ((![v46, v138] : Fin 2 → IVec S16 32) a x).toNat < S512x128.size a := fun v46 v138 k1_hw80 => k1_hw80
def k1_off85 (k1_t4 : Fin k1_t4_loop.trips) : Fin 2 → Nat :=
  let c15_i32_80 : BitVec 32 := 15#32
  let v140 : Index := Scalar.indexCast c15_i32_80
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v141 : Index := Scalar.indexCast v32
  ![15, v141.toNat]

def k1_chk81 (v46 : IVec S16 32) (v144 : IVec S16 32) : Prop :=
  (∀ a x, ((![v46, v144] : Fin 2 → IVec S16 32) a x).toNat < S512x128.size a)
theorem k1_idx81_inb : ∀ (v46 : IVec S16 32) (v144 : IVec S16 32) (k1_hw81 : k1_chk81 v46 v144), ∀ a x, ((![v46, v144] : Fin 2 → IVec S16 32) a x).toNat < S512x128.size a := fun v46 v144 k1_hw81 => k1_hw81
def k1_off86 (k1_t4 : Fin k1_t4_loop.trips) : Fin 2 → Nat :=
  let c16_i32_82 : BitVec 32 := 16#32
  let v146 : Index := Scalar.indexCast c16_i32_82
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v147 : Index := Scalar.indexCast v32
  ![16, v147.toNat]

def k1_chk82 (v46 : IVec S16 32) (v150 : IVec S16 32) : Prop :=
  (∀ a x, ((![v46, v150] : Fin 2 → IVec S16 32) a x).toNat < S512x128.size a)
theorem k1_idx82_inb : ∀ (v46 : IVec S16 32) (v150 : IVec S16 32) (k1_hw82 : k1_chk82 v46 v150), ∀ a x, ((![v46, v150] : Fin 2 → IVec S16 32) a x).toNat < S512x128.size a := fun v46 v150 k1_hw82 => k1_hw82
def k1_off87 (k1_t4 : Fin k1_t4_loop.trips) : Fin 2 → Nat :=
  let c17_i32_83 : BitVec 32 := 17#32
  let v152 : Index := Scalar.indexCast c17_i32_83
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v153 : Index := Scalar.indexCast v32
  ![17, v153.toNat]

def k1_chk83 (v46 : IVec S16 32) (v156 : IVec S16 32) : Prop :=
  (∀ a x, ((![v46, v156] : Fin 2 → IVec S16 32) a x).toNat < S512x128.size a)
theorem k1_idx83_inb : ∀ (v46 : IVec S16 32) (v156 : IVec S16 32) (k1_hw83 : k1_chk83 v46 v156), ∀ a x, ((![v46, v156] : Fin 2 → IVec S16 32) a x).toNat < S512x128.size a := fun v46 v156 k1_hw83 => k1_hw83
def k1_off88 (k1_t4 : Fin k1_t4_loop.trips) : Fin 2 → Nat :=
  let c18_i32_84 : BitVec 32 := 18#32
  let v158 : Index := Scalar.indexCast c18_i32_84
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v159 : Index := Scalar.indexCast v32
  ![18, v159.toNat]

def k1_chk84 (v46 : IVec S16 32) (v162 : IVec S16 32) : Prop :=
  (∀ a x, ((![v46, v162] : Fin 2 → IVec S16 32) a x).toNat < S512x128.size a)
theorem k1_idx84_inb : ∀ (v46 : IVec S16 32) (v162 : IVec S16 32) (k1_hw84 : k1_chk84 v46 v162), ∀ a x, ((![v46, v162] : Fin 2 → IVec S16 32) a x).toNat < S512x128.size a := fun v46 v162 k1_hw84 => k1_hw84
def k1_off89 (k1_t4 : Fin k1_t4_loop.trips) : Fin 2 → Nat :=
  let c19_i32_85 : BitVec 32 := 19#32
  let v164 : Index := Scalar.indexCast c19_i32_85
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v165 : Index := Scalar.indexCast v32
  ![19, v165.toNat]

def k1_chk85 (v46 : IVec S16 32) (v168 : IVec S16 32) : Prop :=
  (∀ a x, ((![v46, v168] : Fin 2 → IVec S16 32) a x).toNat < S512x128.size a)
theorem k1_idx85_inb : ∀ (v46 : IVec S16 32) (v168 : IVec S16 32) (k1_hw85 : k1_chk85 v46 v168), ∀ a x, ((![v46, v168] : Fin 2 → IVec S16 32) a x).toNat < S512x128.size a := fun v46 v168 k1_hw85 => k1_hw85
def k1_off90 (k1_t4 : Fin k1_t4_loop.trips) : Fin 2 → Nat :=
  let c20_i32_86 : BitVec 32 := 20#32
  let v170 : Index := Scalar.indexCast c20_i32_86
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v171 : Index := Scalar.indexCast v32
  ![20, v171.toNat]

def k1_chk86 (v46 : IVec S16 32) (v174 : IVec S16 32) : Prop :=
  (∀ a x, ((![v46, v174] : Fin 2 → IVec S16 32) a x).toNat < S512x128.size a)
theorem k1_idx86_inb : ∀ (v46 : IVec S16 32) (v174 : IVec S16 32) (k1_hw86 : k1_chk86 v46 v174), ∀ a x, ((![v46, v174] : Fin 2 → IVec S16 32) a x).toNat < S512x128.size a := fun v46 v174 k1_hw86 => k1_hw86
def k1_off91 (k1_t4 : Fin k1_t4_loop.trips) : Fin 2 → Nat :=
  let c21_i32_87 : BitVec 32 := 21#32
  let v176 : Index := Scalar.indexCast c21_i32_87
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v177 : Index := Scalar.indexCast v32
  ![21, v177.toNat]

def k1_chk87 (v46 : IVec S16 32) (v180 : IVec S16 32) : Prop :=
  (∀ a x, ((![v46, v180] : Fin 2 → IVec S16 32) a x).toNat < S512x128.size a)
theorem k1_idx87_inb : ∀ (v46 : IVec S16 32) (v180 : IVec S16 32) (k1_hw87 : k1_chk87 v46 v180), ∀ a x, ((![v46, v180] : Fin 2 → IVec S16 32) a x).toNat < S512x128.size a := fun v46 v180 k1_hw87 => k1_hw87
def k1_off92 (k1_t4 : Fin k1_t4_loop.trips) : Fin 2 → Nat :=
  let c22_i32_88 : BitVec 32 := 22#32
  let v182 : Index := Scalar.indexCast c22_i32_88
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v183 : Index := Scalar.indexCast v32
  ![22, v183.toNat]

def k1_chk88 (v46 : IVec S16 32) (v186 : IVec S16 32) : Prop :=
  (∀ a x, ((![v46, v186] : Fin 2 → IVec S16 32) a x).toNat < S512x128.size a)
theorem k1_idx88_inb : ∀ (v46 : IVec S16 32) (v186 : IVec S16 32) (k1_hw88 : k1_chk88 v46 v186), ∀ a x, ((![v46, v186] : Fin 2 → IVec S16 32) a x).toNat < S512x128.size a := fun v46 v186 k1_hw88 => k1_hw88
def k1_off93 (k1_t4 : Fin k1_t4_loop.trips) : Fin 2 → Nat :=
  let c23_i32_89 : BitVec 32 := 23#32
  let v188 : Index := Scalar.indexCast c23_i32_89
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v189 : Index := Scalar.indexCast v32
  ![23, v189.toNat]

def k1_chk89 (v46 : IVec S16 32) (v192 : IVec S16 32) : Prop :=
  (∀ a x, ((![v46, v192] : Fin 2 → IVec S16 32) a x).toNat < S512x128.size a)
theorem k1_idx89_inb : ∀ (v46 : IVec S16 32) (v192 : IVec S16 32) (k1_hw89 : k1_chk89 v46 v192), ∀ a x, ((![v46, v192] : Fin 2 → IVec S16 32) a x).toNat < S512x128.size a := fun v46 v192 k1_hw89 => k1_hw89
def k1_off94 (k1_t4 : Fin k1_t4_loop.trips) : Fin 2 → Nat :=
  let c24_i32_91 : BitVec 32 := 24#32
  let v194 : Index := Scalar.indexCast c24_i32_91
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v195 : Index := Scalar.indexCast v32
  ![24, v195.toNat]

def k1_chk90 (v46 : IVec S16 32) (v198 : IVec S16 32) : Prop :=
  (∀ a x, ((![v46, v198] : Fin 2 → IVec S16 32) a x).toNat < S512x128.size a)
theorem k1_idx90_inb : ∀ (v46 : IVec S16 32) (v198 : IVec S16 32) (k1_hw90 : k1_chk90 v46 v198), ∀ a x, ((![v46, v198] : Fin 2 → IVec S16 32) a x).toNat < S512x128.size a := fun v46 v198 k1_hw90 => k1_hw90
def k1_off95 (k1_t4 : Fin k1_t4_loop.trips) : Fin 2 → Nat :=
  let c25_i32_92 : BitVec 32 := 25#32
  let v200 : Index := Scalar.indexCast c25_i32_92
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v201 : Index := Scalar.indexCast v32
  ![25, v201.toNat]

def k1_chk91 (v46 : IVec S16 32) (v204 : IVec S16 32) : Prop :=
  (∀ a x, ((![v46, v204] : Fin 2 → IVec S16 32) a x).toNat < S512x128.size a)
theorem k1_idx91_inb : ∀ (v46 : IVec S16 32) (v204 : IVec S16 32) (k1_hw91 : k1_chk91 v46 v204), ∀ a x, ((![v46, v204] : Fin 2 → IVec S16 32) a x).toNat < S512x128.size a := fun v46 v204 k1_hw91 => k1_hw91
def k1_off96 (k1_t4 : Fin k1_t4_loop.trips) : Fin 2 → Nat :=
  let c26_i32_93 : BitVec 32 := 26#32
  let v206 : Index := Scalar.indexCast c26_i32_93
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v207 : Index := Scalar.indexCast v32
  ![26, v207.toNat]

def k1_chk92 (v46 : IVec S16 32) (v210 : IVec S16 32) : Prop :=
  (∀ a x, ((![v46, v210] : Fin 2 → IVec S16 32) a x).toNat < S512x128.size a)
theorem k1_idx92_inb : ∀ (v46 : IVec S16 32) (v210 : IVec S16 32) (k1_hw92 : k1_chk92 v46 v210), ∀ a x, ((![v46, v210] : Fin 2 → IVec S16 32) a x).toNat < S512x128.size a := fun v46 v210 k1_hw92 => k1_hw92
def k1_off97 (k1_t4 : Fin k1_t4_loop.trips) : Fin 2 → Nat :=
  let c27_i32_94 : BitVec 32 := 27#32
  let v212 : Index := Scalar.indexCast c27_i32_94
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v213 : Index := Scalar.indexCast v32
  ![27, v213.toNat]

def k1_chk93 (v46 : IVec S16 32) (v216 : IVec S16 32) : Prop :=
  (∀ a x, ((![v46, v216] : Fin 2 → IVec S16 32) a x).toNat < S512x128.size a)
theorem k1_idx93_inb : ∀ (v46 : IVec S16 32) (v216 : IVec S16 32) (k1_hw93 : k1_chk93 v46 v216), ∀ a x, ((![v46, v216] : Fin 2 → IVec S16 32) a x).toNat < S512x128.size a := fun v46 v216 k1_hw93 => k1_hw93
def k1_off98 (k1_t4 : Fin k1_t4_loop.trips) : Fin 2 → Nat :=
  let c28_i32_95 : BitVec 32 := 28#32
  let v218 : Index := Scalar.indexCast c28_i32_95
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v219 : Index := Scalar.indexCast v32
  ![28, v219.toNat]

def k1_chk94 (v46 : IVec S16 32) (v222 : IVec S16 32) : Prop :=
  (∀ a x, ((![v46, v222] : Fin 2 → IVec S16 32) a x).toNat < S512x128.size a)
theorem k1_idx94_inb : ∀ (v46 : IVec S16 32) (v222 : IVec S16 32) (k1_hw94 : k1_chk94 v46 v222), ∀ a x, ((![v46, v222] : Fin 2 → IVec S16 32) a x).toNat < S512x128.size a := fun v46 v222 k1_hw94 => k1_hw94
def k1_off99 (k1_t4 : Fin k1_t4_loop.trips) : Fin 2 → Nat :=
  let c29_i32_96 : BitVec 32 := 29#32
  let v224 : Index := Scalar.indexCast c29_i32_96
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v225 : Index := Scalar.indexCast v32
  ![29, v225.toNat]

def k1_chk95 (v46 : IVec S16 32) (v228 : IVec S16 32) : Prop :=
  (∀ a x, ((![v46, v228] : Fin 2 → IVec S16 32) a x).toNat < S512x128.size a)
theorem k1_idx95_inb : ∀ (v46 : IVec S16 32) (v228 : IVec S16 32) (k1_hw95 : k1_chk95 v46 v228), ∀ a x, ((![v46, v228] : Fin 2 → IVec S16 32) a x).toNat < S512x128.size a := fun v46 v228 k1_hw95 => k1_hw95
def k1_off100 (k1_t4 : Fin k1_t4_loop.trips) : Fin 2 → Nat :=
  let c30_i32_97 : BitVec 32 := 30#32
  let v230 : Index := Scalar.indexCast c30_i32_97
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v231 : Index := Scalar.indexCast v32
  ![30, v231.toNat]

def k1_chk96 (v46 : IVec S16 32) (v234 : IVec S16 32) : Prop :=
  (∀ a x, ((![v46, v234] : Fin 2 → IVec S16 32) a x).toNat < S512x128.size a)
theorem k1_idx96_inb : ∀ (v46 : IVec S16 32) (v234 : IVec S16 32) (k1_hw96 : k1_chk96 v46 v234), ∀ a x, ((![v46, v234] : Fin 2 → IVec S16 32) a x).toNat < S512x128.size a := fun v46 v234 k1_hw96 => k1_hw96
def k1_off101 (k1_t4 : Fin k1_t4_loop.trips) : Fin 2 → Nat :=
  let c31_i32_98 : BitVec 32 := 31#32
  let v236 : Index := Scalar.indexCast c31_i32_98
  let c16_i32 : BitVec 32 := 16#32
  let c1_i32_45 : BitVec 32 := 1#32
  let arg13 : BitVec 32 := Scf.iv c16_i32 c1_i32_45 k1_t4
  let c16_i32_56 : BitVec 32 := 16#32
  let v32 : BitVec 32 := Scalar.muli arg13 c16_i32_56
  let v237 : Index := Scalar.indexCast v32
  ![31, v237.toNat]
@[reducible] def k1_t5_loop : Scf.Loop 32 :=
  let c24_i32 : BitVec 32 := 24#32
  let c8_i32_53 : BitVec 32 := 8#32
  let v31 : BitVec 32 := Scalar.addi c24_i32 c8_i32_53
  let c1_i32_54 : BitVec 32 := 1#32
  ⟨c24_i32, v31, c1_i32_54⟩
def k1_off102 (k1_t5 : Fin k1_t5_loop.trips) : Fin 1 → Nat :=
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v33 : Index := Scalar.indexCast v32
  ![v33.toNat]

def k1_chk97 (v46 : IVec S16 32) (v48 : IVec S16 32) : Prop :=
  (∀ a x, ((![v46, v48] : Fin 2 → IVec S16 32) a x).toNat < S512x128.size a)
theorem k1_idx97_inb : ∀ (v46 : IVec S16 32) (v48 : IVec S16 32) (k1_hw97 : k1_chk97 v46 v48), ∀ a x, ((![v46, v48] : Fin 2 → IVec S16 32) a x).toNat < S512x128.size a := fun v46 v48 k1_hw97 => k1_hw97
def k1_off103 (k1_t5 : Fin k1_t5_loop.trips) : Fin 2 → Nat :=
  let c0_i32_61 : BitVec 32 := 0#32
  let v50 : Index := Scalar.indexCast c0_i32_61
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v51 : Index := Scalar.indexCast v32
  ![0, v51.toNat]

def k1_chk98 (v46 : IVec S16 32) (v54 : IVec S16 32) : Prop :=
  (∀ a x, ((![v46, v54] : Fin 2 → IVec S16 32) a x).toNat < S512x128.size a)
theorem k1_idx98_inb : ∀ (v46 : IVec S16 32) (v54 : IVec S16 32) (k1_hw98 : k1_chk98 v46 v54), ∀ a x, ((![v46, v54] : Fin 2 → IVec S16 32) a x).toNat < S512x128.size a := fun v46 v54 k1_hw98 => k1_hw98
def k1_off104 (k1_t5 : Fin k1_t5_loop.trips) : Fin 2 → Nat :=
  let c1_i32_63 : BitVec 32 := 1#32
  let v56 : Index := Scalar.indexCast c1_i32_63
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v57 : Index := Scalar.indexCast v32
  ![1, v57.toNat]

def k1_chk99 (v46 : IVec S16 32) (v60 : IVec S16 32) : Prop :=
  (∀ a x, ((![v46, v60] : Fin 2 → IVec S16 32) a x).toNat < S512x128.size a)
theorem k1_idx99_inb : ∀ (v46 : IVec S16 32) (v60 : IVec S16 32) (k1_hw99 : k1_chk99 v46 v60), ∀ a x, ((![v46, v60] : Fin 2 → IVec S16 32) a x).toNat < S512x128.size a := fun v46 v60 k1_hw99 => k1_hw99
def k1_off105 (k1_t5 : Fin k1_t5_loop.trips) : Fin 2 → Nat :=
  let c2_i32_65 : BitVec 32 := 2#32
  let v62 : Index := Scalar.indexCast c2_i32_65
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v63 : Index := Scalar.indexCast v32
  ![2, v63.toNat]

def k1_chk100 (v46 : IVec S16 32) (v66 : IVec S16 32) : Prop :=
  (∀ a x, ((![v46, v66] : Fin 2 → IVec S16 32) a x).toNat < S512x128.size a)
theorem k1_idx100_inb : ∀ (v46 : IVec S16 32) (v66 : IVec S16 32) (k1_hw100 : k1_chk100 v46 v66), ∀ a x, ((![v46, v66] : Fin 2 → IVec S16 32) a x).toNat < S512x128.size a := fun v46 v66 k1_hw100 => k1_hw100
def k1_off106 (k1_t5 : Fin k1_t5_loop.trips) : Fin 2 → Nat :=
  let c3_i32_66 : BitVec 32 := 3#32
  let v68 : Index := Scalar.indexCast c3_i32_66
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v69 : Index := Scalar.indexCast v32
  ![3, v69.toNat]

def k1_chk101 (v46 : IVec S16 32) (v72 : IVec S16 32) : Prop :=
  (∀ a x, ((![v46, v72] : Fin 2 → IVec S16 32) a x).toNat < S512x128.size a)
theorem k1_idx101_inb : ∀ (v46 : IVec S16 32) (v72 : IVec S16 32) (k1_hw101 : k1_chk101 v46 v72), ∀ a x, ((![v46, v72] : Fin 2 → IVec S16 32) a x).toNat < S512x128.size a := fun v46 v72 k1_hw101 => k1_hw101
def k1_off107 (k1_t5 : Fin k1_t5_loop.trips) : Fin 2 → Nat :=
  let c4_i32_67 : BitVec 32 := 4#32
  let v74 : Index := Scalar.indexCast c4_i32_67
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v75 : Index := Scalar.indexCast v32
  ![4, v75.toNat]

def k1_chk102 (v46 : IVec S16 32) (v78 : IVec S16 32) : Prop :=
  (∀ a x, ((![v46, v78] : Fin 2 → IVec S16 32) a x).toNat < S512x128.size a)
theorem k1_idx102_inb : ∀ (v46 : IVec S16 32) (v78 : IVec S16 32) (k1_hw102 : k1_chk102 v46 v78), ∀ a x, ((![v46, v78] : Fin 2 → IVec S16 32) a x).toNat < S512x128.size a := fun v46 v78 k1_hw102 => k1_hw102
def k1_off108 (k1_t5 : Fin k1_t5_loop.trips) : Fin 2 → Nat :=
  let c5_i32_68 : BitVec 32 := 5#32
  let v80 : Index := Scalar.indexCast c5_i32_68
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v81 : Index := Scalar.indexCast v32
  ![5, v81.toNat]

def k1_chk103 (v46 : IVec S16 32) (v84 : IVec S16 32) : Prop :=
  (∀ a x, ((![v46, v84] : Fin 2 → IVec S16 32) a x).toNat < S512x128.size a)
theorem k1_idx103_inb : ∀ (v46 : IVec S16 32) (v84 : IVec S16 32) (k1_hw103 : k1_chk103 v46 v84), ∀ a x, ((![v46, v84] : Fin 2 → IVec S16 32) a x).toNat < S512x128.size a := fun v46 v84 k1_hw103 => k1_hw103
def k1_off109 (k1_t5 : Fin k1_t5_loop.trips) : Fin 2 → Nat :=
  let c6_i32_69 : BitVec 32 := 6#32
  let v86 : Index := Scalar.indexCast c6_i32_69
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v87 : Index := Scalar.indexCast v32
  ![6, v87.toNat]

def k1_chk104 (v46 : IVec S16 32) (v90 : IVec S16 32) : Prop :=
  (∀ a x, ((![v46, v90] : Fin 2 → IVec S16 32) a x).toNat < S512x128.size a)
theorem k1_idx104_inb : ∀ (v46 : IVec S16 32) (v90 : IVec S16 32) (k1_hw104 : k1_chk104 v46 v90), ∀ a x, ((![v46, v90] : Fin 2 → IVec S16 32) a x).toNat < S512x128.size a := fun v46 v90 k1_hw104 => k1_hw104
def k1_off110 (k1_t5 : Fin k1_t5_loop.trips) : Fin 2 → Nat :=
  let c7_i32_70 : BitVec 32 := 7#32
  let v92 : Index := Scalar.indexCast c7_i32_70
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v93 : Index := Scalar.indexCast v32
  ![7, v93.toNat]

def k1_chk105 (v46 : IVec S16 32) (v96 : IVec S16 32) : Prop :=
  (∀ a x, ((![v46, v96] : Fin 2 → IVec S16 32) a x).toNat < S512x128.size a)
theorem k1_idx105_inb : ∀ (v46 : IVec S16 32) (v96 : IVec S16 32) (k1_hw105 : k1_chk105 v46 v96), ∀ a x, ((![v46, v96] : Fin 2 → IVec S16 32) a x).toNat < S512x128.size a := fun v46 v96 k1_hw105 => k1_hw105
def k1_off111 (k1_t5 : Fin k1_t5_loop.trips) : Fin 2 → Nat :=
  let c8_i32_72 : BitVec 32 := 8#32
  let v98 : Index := Scalar.indexCast c8_i32_72
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v99 : Index := Scalar.indexCast v32
  ![8, v99.toNat]

def k1_chk106 (v46 : IVec S16 32) (v102 : IVec S16 32) : Prop :=
  (∀ a x, ((![v46, v102] : Fin 2 → IVec S16 32) a x).toNat < S512x128.size a)
theorem k1_idx106_inb : ∀ (v46 : IVec S16 32) (v102 : IVec S16 32) (k1_hw106 : k1_chk106 v46 v102), ∀ a x, ((![v46, v102] : Fin 2 → IVec S16 32) a x).toNat < S512x128.size a := fun v46 v102 k1_hw106 => k1_hw106
def k1_off112 (k1_t5 : Fin k1_t5_loop.trips) : Fin 2 → Nat :=
  let c9_i32_74 : BitVec 32 := 9#32
  let v104 : Index := Scalar.indexCast c9_i32_74
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v105 : Index := Scalar.indexCast v32
  ![9, v105.toNat]

def k1_chk107 (v46 : IVec S16 32) (v108 : IVec S16 32) : Prop :=
  (∀ a x, ((![v46, v108] : Fin 2 → IVec S16 32) a x).toNat < S512x128.size a)
theorem k1_idx107_inb : ∀ (v46 : IVec S16 32) (v108 : IVec S16 32) (k1_hw107 : k1_chk107 v46 v108), ∀ a x, ((![v46, v108] : Fin 2 → IVec S16 32) a x).toNat < S512x128.size a := fun v46 v108 k1_hw107 => k1_hw107
def k1_off113 (k1_t5 : Fin k1_t5_loop.trips) : Fin 2 → Nat :=
  let c10_i32_75 : BitVec 32 := 10#32
  let v110 : Index := Scalar.indexCast c10_i32_75
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v111 : Index := Scalar.indexCast v32
  ![10, v111.toNat]

def k1_chk108 (v46 : IVec S16 32) (v114 : IVec S16 32) : Prop :=
  (∀ a x, ((![v46, v114] : Fin 2 → IVec S16 32) a x).toNat < S512x128.size a)
theorem k1_idx108_inb : ∀ (v46 : IVec S16 32) (v114 : IVec S16 32) (k1_hw108 : k1_chk108 v46 v114), ∀ a x, ((![v46, v114] : Fin 2 → IVec S16 32) a x).toNat < S512x128.size a := fun v46 v114 k1_hw108 => k1_hw108
def k1_off114 (k1_t5 : Fin k1_t5_loop.trips) : Fin 2 → Nat :=
  let c11_i32_76 : BitVec 32 := 11#32
  let v116 : Index := Scalar.indexCast c11_i32_76
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v117 : Index := Scalar.indexCast v32
  ![11, v117.toNat]

def k1_chk109 (v46 : IVec S16 32) (v120 : IVec S16 32) : Prop :=
  (∀ a x, ((![v46, v120] : Fin 2 → IVec S16 32) a x).toNat < S512x128.size a)
theorem k1_idx109_inb : ∀ (v46 : IVec S16 32) (v120 : IVec S16 32) (k1_hw109 : k1_chk109 v46 v120), ∀ a x, ((![v46, v120] : Fin 2 → IVec S16 32) a x).toNat < S512x128.size a := fun v46 v120 k1_hw109 => k1_hw109
def k1_off115 (k1_t5 : Fin k1_t5_loop.trips) : Fin 2 → Nat :=
  let c12_i32_77 : BitVec 32 := 12#32
  let v122 : Index := Scalar.indexCast c12_i32_77
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v123 : Index := Scalar.indexCast v32
  ![12, v123.toNat]

def k1_chk110 (v46 : IVec S16 32) (v126 : IVec S16 32) : Prop :=
  (∀ a x, ((![v46, v126] : Fin 2 → IVec S16 32) a x).toNat < S512x128.size a)
theorem k1_idx110_inb : ∀ (v46 : IVec S16 32) (v126 : IVec S16 32) (k1_hw110 : k1_chk110 v46 v126), ∀ a x, ((![v46, v126] : Fin 2 → IVec S16 32) a x).toNat < S512x128.size a := fun v46 v126 k1_hw110 => k1_hw110
def k1_off116 (k1_t5 : Fin k1_t5_loop.trips) : Fin 2 → Nat :=
  let c13_i32_78 : BitVec 32 := 13#32
  let v128 : Index := Scalar.indexCast c13_i32_78
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v129 : Index := Scalar.indexCast v32
  ![13, v129.toNat]

def k1_chk111 (v46 : IVec S16 32) (v132 : IVec S16 32) : Prop :=
  (∀ a x, ((![v46, v132] : Fin 2 → IVec S16 32) a x).toNat < S512x128.size a)
theorem k1_idx111_inb : ∀ (v46 : IVec S16 32) (v132 : IVec S16 32) (k1_hw111 : k1_chk111 v46 v132), ∀ a x, ((![v46, v132] : Fin 2 → IVec S16 32) a x).toNat < S512x128.size a := fun v46 v132 k1_hw111 => k1_hw111
def k1_off117 (k1_t5 : Fin k1_t5_loop.trips) : Fin 2 → Nat :=
  let c14_i32_79 : BitVec 32 := 14#32
  let v134 : Index := Scalar.indexCast c14_i32_79
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v135 : Index := Scalar.indexCast v32
  ![14, v135.toNat]

def k1_chk112 (v46 : IVec S16 32) (v138 : IVec S16 32) : Prop :=
  (∀ a x, ((![v46, v138] : Fin 2 → IVec S16 32) a x).toNat < S512x128.size a)
theorem k1_idx112_inb : ∀ (v46 : IVec S16 32) (v138 : IVec S16 32) (k1_hw112 : k1_chk112 v46 v138), ∀ a x, ((![v46, v138] : Fin 2 → IVec S16 32) a x).toNat < S512x128.size a := fun v46 v138 k1_hw112 => k1_hw112
def k1_off118 (k1_t5 : Fin k1_t5_loop.trips) : Fin 2 → Nat :=
  let c15_i32_80 : BitVec 32 := 15#32
  let v140 : Index := Scalar.indexCast c15_i32_80
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v141 : Index := Scalar.indexCast v32
  ![15, v141.toNat]

def k1_chk113 (v46 : IVec S16 32) (v144 : IVec S16 32) : Prop :=
  (∀ a x, ((![v46, v144] : Fin 2 → IVec S16 32) a x).toNat < S512x128.size a)
theorem k1_idx113_inb : ∀ (v46 : IVec S16 32) (v144 : IVec S16 32) (k1_hw113 : k1_chk113 v46 v144), ∀ a x, ((![v46, v144] : Fin 2 → IVec S16 32) a x).toNat < S512x128.size a := fun v46 v144 k1_hw113 => k1_hw113
def k1_off119 (k1_t5 : Fin k1_t5_loop.trips) : Fin 2 → Nat :=
  let c16_i32_82 : BitVec 32 := 16#32
  let v146 : Index := Scalar.indexCast c16_i32_82
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v147 : Index := Scalar.indexCast v32
  ![16, v147.toNat]

def k1_chk114 (v46 : IVec S16 32) (v150 : IVec S16 32) : Prop :=
  (∀ a x, ((![v46, v150] : Fin 2 → IVec S16 32) a x).toNat < S512x128.size a)
theorem k1_idx114_inb : ∀ (v46 : IVec S16 32) (v150 : IVec S16 32) (k1_hw114 : k1_chk114 v46 v150), ∀ a x, ((![v46, v150] : Fin 2 → IVec S16 32) a x).toNat < S512x128.size a := fun v46 v150 k1_hw114 => k1_hw114
def k1_off120 (k1_t5 : Fin k1_t5_loop.trips) : Fin 2 → Nat :=
  let c17_i32_83 : BitVec 32 := 17#32
  let v152 : Index := Scalar.indexCast c17_i32_83
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v153 : Index := Scalar.indexCast v32
  ![17, v153.toNat]

def k1_chk115 (v46 : IVec S16 32) (v156 : IVec S16 32) : Prop :=
  (∀ a x, ((![v46, v156] : Fin 2 → IVec S16 32) a x).toNat < S512x128.size a)
theorem k1_idx115_inb : ∀ (v46 : IVec S16 32) (v156 : IVec S16 32) (k1_hw115 : k1_chk115 v46 v156), ∀ a x, ((![v46, v156] : Fin 2 → IVec S16 32) a x).toNat < S512x128.size a := fun v46 v156 k1_hw115 => k1_hw115
def k1_off121 (k1_t5 : Fin k1_t5_loop.trips) : Fin 2 → Nat :=
  let c18_i32_84 : BitVec 32 := 18#32
  let v158 : Index := Scalar.indexCast c18_i32_84
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v159 : Index := Scalar.indexCast v32
  ![18, v159.toNat]

def k1_chk116 (v46 : IVec S16 32) (v162 : IVec S16 32) : Prop :=
  (∀ a x, ((![v46, v162] : Fin 2 → IVec S16 32) a x).toNat < S512x128.size a)
theorem k1_idx116_inb : ∀ (v46 : IVec S16 32) (v162 : IVec S16 32) (k1_hw116 : k1_chk116 v46 v162), ∀ a x, ((![v46, v162] : Fin 2 → IVec S16 32) a x).toNat < S512x128.size a := fun v46 v162 k1_hw116 => k1_hw116
def k1_off122 (k1_t5 : Fin k1_t5_loop.trips) : Fin 2 → Nat :=
  let c19_i32_85 : BitVec 32 := 19#32
  let v164 : Index := Scalar.indexCast c19_i32_85
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v165 : Index := Scalar.indexCast v32
  ![19, v165.toNat]

def k1_chk117 (v46 : IVec S16 32) (v168 : IVec S16 32) : Prop :=
  (∀ a x, ((![v46, v168] : Fin 2 → IVec S16 32) a x).toNat < S512x128.size a)
theorem k1_idx117_inb : ∀ (v46 : IVec S16 32) (v168 : IVec S16 32) (k1_hw117 : k1_chk117 v46 v168), ∀ a x, ((![v46, v168] : Fin 2 → IVec S16 32) a x).toNat < S512x128.size a := fun v46 v168 k1_hw117 => k1_hw117
def k1_off123 (k1_t5 : Fin k1_t5_loop.trips) : Fin 2 → Nat :=
  let c20_i32_86 : BitVec 32 := 20#32
  let v170 : Index := Scalar.indexCast c20_i32_86
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v171 : Index := Scalar.indexCast v32
  ![20, v171.toNat]

def k1_chk118 (v46 : IVec S16 32) (v174 : IVec S16 32) : Prop :=
  (∀ a x, ((![v46, v174] : Fin 2 → IVec S16 32) a x).toNat < S512x128.size a)
theorem k1_idx118_inb : ∀ (v46 : IVec S16 32) (v174 : IVec S16 32) (k1_hw118 : k1_chk118 v46 v174), ∀ a x, ((![v46, v174] : Fin 2 → IVec S16 32) a x).toNat < S512x128.size a := fun v46 v174 k1_hw118 => k1_hw118
def k1_off124 (k1_t5 : Fin k1_t5_loop.trips) : Fin 2 → Nat :=
  let c21_i32_87 : BitVec 32 := 21#32
  let v176 : Index := Scalar.indexCast c21_i32_87
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v177 : Index := Scalar.indexCast v32
  ![21, v177.toNat]

def k1_chk119 (v46 : IVec S16 32) (v180 : IVec S16 32) : Prop :=
  (∀ a x, ((![v46, v180] : Fin 2 → IVec S16 32) a x).toNat < S512x128.size a)
theorem k1_idx119_inb : ∀ (v46 : IVec S16 32) (v180 : IVec S16 32) (k1_hw119 : k1_chk119 v46 v180), ∀ a x, ((![v46, v180] : Fin 2 → IVec S16 32) a x).toNat < S512x128.size a := fun v46 v180 k1_hw119 => k1_hw119
def k1_off125 (k1_t5 : Fin k1_t5_loop.trips) : Fin 2 → Nat :=
  let c22_i32_88 : BitVec 32 := 22#32
  let v182 : Index := Scalar.indexCast c22_i32_88
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v183 : Index := Scalar.indexCast v32
  ![22, v183.toNat]

def k1_chk120 (v46 : IVec S16 32) (v186 : IVec S16 32) : Prop :=
  (∀ a x, ((![v46, v186] : Fin 2 → IVec S16 32) a x).toNat < S512x128.size a)
theorem k1_idx120_inb : ∀ (v46 : IVec S16 32) (v186 : IVec S16 32) (k1_hw120 : k1_chk120 v46 v186), ∀ a x, ((![v46, v186] : Fin 2 → IVec S16 32) a x).toNat < S512x128.size a := fun v46 v186 k1_hw120 => k1_hw120
def k1_off126 (k1_t5 : Fin k1_t5_loop.trips) : Fin 2 → Nat :=
  let c23_i32_89 : BitVec 32 := 23#32
  let v188 : Index := Scalar.indexCast c23_i32_89
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v189 : Index := Scalar.indexCast v32
  ![23, v189.toNat]

def k1_chk121 (v46 : IVec S16 32) (v192 : IVec S16 32) : Prop :=
  (∀ a x, ((![v46, v192] : Fin 2 → IVec S16 32) a x).toNat < S512x128.size a)
theorem k1_idx121_inb : ∀ (v46 : IVec S16 32) (v192 : IVec S16 32) (k1_hw121 : k1_chk121 v46 v192), ∀ a x, ((![v46, v192] : Fin 2 → IVec S16 32) a x).toNat < S512x128.size a := fun v46 v192 k1_hw121 => k1_hw121
def k1_off127 (k1_t5 : Fin k1_t5_loop.trips) : Fin 2 → Nat :=
  let c24_i32_91 : BitVec 32 := 24#32
  let v194 : Index := Scalar.indexCast c24_i32_91
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v195 : Index := Scalar.indexCast v32
  ![24, v195.toNat]

def k1_chk122 (v46 : IVec S16 32) (v198 : IVec S16 32) : Prop :=
  (∀ a x, ((![v46, v198] : Fin 2 → IVec S16 32) a x).toNat < S512x128.size a)
theorem k1_idx122_inb : ∀ (v46 : IVec S16 32) (v198 : IVec S16 32) (k1_hw122 : k1_chk122 v46 v198), ∀ a x, ((![v46, v198] : Fin 2 → IVec S16 32) a x).toNat < S512x128.size a := fun v46 v198 k1_hw122 => k1_hw122
def k1_off128 (k1_t5 : Fin k1_t5_loop.trips) : Fin 2 → Nat :=
  let c25_i32_92 : BitVec 32 := 25#32
  let v200 : Index := Scalar.indexCast c25_i32_92
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v201 : Index := Scalar.indexCast v32
  ![25, v201.toNat]

def k1_chk123 (v46 : IVec S16 32) (v204 : IVec S16 32) : Prop :=
  (∀ a x, ((![v46, v204] : Fin 2 → IVec S16 32) a x).toNat < S512x128.size a)
theorem k1_idx123_inb : ∀ (v46 : IVec S16 32) (v204 : IVec S16 32) (k1_hw123 : k1_chk123 v46 v204), ∀ a x, ((![v46, v204] : Fin 2 → IVec S16 32) a x).toNat < S512x128.size a := fun v46 v204 k1_hw123 => k1_hw123
def k1_off129 (k1_t5 : Fin k1_t5_loop.trips) : Fin 2 → Nat :=
  let c26_i32_93 : BitVec 32 := 26#32
  let v206 : Index := Scalar.indexCast c26_i32_93
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v207 : Index := Scalar.indexCast v32
  ![26, v207.toNat]

def k1_chk124 (v46 : IVec S16 32) (v210 : IVec S16 32) : Prop :=
  (∀ a x, ((![v46, v210] : Fin 2 → IVec S16 32) a x).toNat < S512x128.size a)
theorem k1_idx124_inb : ∀ (v46 : IVec S16 32) (v210 : IVec S16 32) (k1_hw124 : k1_chk124 v46 v210), ∀ a x, ((![v46, v210] : Fin 2 → IVec S16 32) a x).toNat < S512x128.size a := fun v46 v210 k1_hw124 => k1_hw124
def k1_off130 (k1_t5 : Fin k1_t5_loop.trips) : Fin 2 → Nat :=
  let c27_i32_94 : BitVec 32 := 27#32
  let v212 : Index := Scalar.indexCast c27_i32_94
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v213 : Index := Scalar.indexCast v32
  ![27, v213.toNat]

def k1_chk125 (v46 : IVec S16 32) (v216 : IVec S16 32) : Prop :=
  (∀ a x, ((![v46, v216] : Fin 2 → IVec S16 32) a x).toNat < S512x128.size a)
theorem k1_idx125_inb : ∀ (v46 : IVec S16 32) (v216 : IVec S16 32) (k1_hw125 : k1_chk125 v46 v216), ∀ a x, ((![v46, v216] : Fin 2 → IVec S16 32) a x).toNat < S512x128.size a := fun v46 v216 k1_hw125 => k1_hw125
def k1_off131 (k1_t5 : Fin k1_t5_loop.trips) : Fin 2 → Nat :=
  let c28_i32_95 : BitVec 32 := 28#32
  let v218 : Index := Scalar.indexCast c28_i32_95
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v219 : Index := Scalar.indexCast v32
  ![28, v219.toNat]

def k1_chk126 (v46 : IVec S16 32) (v222 : IVec S16 32) : Prop :=
  (∀ a x, ((![v46, v222] : Fin 2 → IVec S16 32) a x).toNat < S512x128.size a)
theorem k1_idx126_inb : ∀ (v46 : IVec S16 32) (v222 : IVec S16 32) (k1_hw126 : k1_chk126 v46 v222), ∀ a x, ((![v46, v222] : Fin 2 → IVec S16 32) a x).toNat < S512x128.size a := fun v46 v222 k1_hw126 => k1_hw126
def k1_off132 (k1_t5 : Fin k1_t5_loop.trips) : Fin 2 → Nat :=
  let c29_i32_96 : BitVec 32 := 29#32
  let v224 : Index := Scalar.indexCast c29_i32_96
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v225 : Index := Scalar.indexCast v32
  ![29, v225.toNat]

def k1_chk127 (v46 : IVec S16 32) (v228 : IVec S16 32) : Prop :=
  (∀ a x, ((![v46, v228] : Fin 2 → IVec S16 32) a x).toNat < S512x128.size a)
theorem k1_idx127_inb : ∀ (v46 : IVec S16 32) (v228 : IVec S16 32) (k1_hw127 : k1_chk127 v46 v228), ∀ a x, ((![v46, v228] : Fin 2 → IVec S16 32) a x).toNat < S512x128.size a := fun v46 v228 k1_hw127 => k1_hw127
def k1_off133 (k1_t5 : Fin k1_t5_loop.trips) : Fin 2 → Nat :=
  let c30_i32_97 : BitVec 32 := 30#32
  let v230 : Index := Scalar.indexCast c30_i32_97
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v231 : Index := Scalar.indexCast v32
  ![30, v231.toNat]

def k1_chk128 (v46 : IVec S16 32) (v234 : IVec S16 32) : Prop :=
  (∀ a x, ((![v46, v234] : Fin 2 → IVec S16 32) a x).toNat < S512x128.size a)
theorem k1_idx128_inb : ∀ (v46 : IVec S16 32) (v234 : IVec S16 32) (k1_hw128 : k1_chk128 v46 v234), ∀ a x, ((![v46, v234] : Fin 2 → IVec S16 32) a x).toNat < S512x128.size a := fun v46 v234 k1_hw128 => k1_hw128
def k1_off134 (k1_t5 : Fin k1_t5_loop.trips) : Fin 2 → Nat :=
  let c31_i32_98 : BitVec 32 := 31#32
  let v236 : Index := Scalar.indexCast c31_i32_98
  let c24_i32 : BitVec 32 := 24#32
  let c1_i32_54 : BitVec 32 := 1#32
  let arg13 : BitVec 32 := Scf.iv c24_i32 c1_i32_54 k1_t5
  let c16_i32_56 : BitVec 32 := 16#32
  let v32 : BitVec 32 := Scalar.muli arg13 c16_i32_56
  let v237 : Index := Scalar.indexCast v32
  ![31, v237.toNat]
def k1_off135 (i : grid1.Coords) : Fin 2 → Nat :=
  let c0_i32_56_r1 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100000x64 : Shape := ⟨2, ![100000, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩
abbrev S16384x128 : Shape := ⟨2, ![16384, 128]⟩
abbrev S1x128 : Shape := ⟨2, ![1, 128]⟩
abbrev S16384x32 : Shape := ⟨2, ![16384, 32]⟩
abbrev S1x32 : Shape := ⟨2, ![1, 32]⟩

abbrev nBuf : Space → Nat
  | .hbm => 40
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100000x64, .f32⟩
  | .hbm, ⟨2, _⟩ => ⟨S64x128, .f32⟩
  | .hbm, ⟨3, _⟩ => ⟨S128, .f32⟩
  | .hbm, ⟨4, _⟩ => ⟨S128x32, .f32⟩
  | .hbm, ⟨5, _⟩ => ⟨S32, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S16384, .i32⟩
  | .hbm, ⟨13, _⟩ => ⟨S16384x1, .i32⟩
  | .hbm, ⟨14, _⟩ => ⟨S1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S1x1, .i32⟩
  | .hbm, ⟨19, _⟩ => ⟨S16384x1, .i32⟩
  | .hbm, ⟨20, _⟩ => ⟨S16384x1, .i1⟩
  | .hbm, ⟨21, _⟩ => ⟨S16384x1, .i1⟩
  | .hbm, ⟨22, _⟩ => ⟨S_, .i1⟩
  | .hbm, ⟨23, _⟩ => ⟨S16384, .i1⟩
  | .hbm, ⟨24, _⟩ => ⟨S16384x64, .f32⟩
  | .hbm, ⟨25, _⟩ => ⟨S16384x64, .i1⟩
  | .hbm, ⟨26, _⟩ => ⟨S_, .f32⟩
  | .hbm, ⟨27, _⟩ => ⟨S16384x64, .f32⟩
  | .hbm, ⟨28, _⟩ => ⟨S16384x64, .f32⟩
  | .hbm, ⟨29, _⟩ => ⟨S16384x128, .f32⟩
  | .hbm, ⟨30, _⟩ => ⟨S1x128, .f32⟩
  | .hbm, ⟨31, _⟩ => ⟨S16384x128, .f32⟩
  | .hbm, ⟨32, _⟩ => ⟨S16384x128, .f32⟩
  | .hbm, ⟨33, _⟩ => ⟨S_, .f32⟩
  | .hbm, ⟨34, _⟩ => ⟨S16384x128, .f32⟩
  | .hbm, ⟨35, _⟩ => ⟨S16384x128, .f32⟩
  | .hbm, ⟨36, _⟩ => ⟨S16384x32, .f32⟩
  | .hbm, ⟨37, _⟩ => ⟨S1x32, .f32⟩
  | .hbm, ⟨38, _⟩ => ⟨S16384x32, .f32⟩
  | .hbm, ⟨39, _⟩ => ⟨S16384x32, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_cst : Ref sig .tc := ⟨.hbm, 33, rfl⟩
abbrev main_call1_v0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩

abbrev nD : Nat := 1
abbrev τ : Topo := Topo.v7x

variable {F : FTy → Type} [FloatOps F]
-- ==== Proof.RowGather.lean ====
/-
  The issue of an indirect gather whose destination is not held outright.

  The tile reads its row buffer while copies into it are still in flight, so it can give the copies no more than a
  part of the buffer.  `wp_gatherBy` is the issue for a destination of which each row comes with its own way to be
  written (a write update): the flight delivers what the updates yield.  `wp_gatherWritten` is the case of interest: the
  destination is in write mode, each row is given at a share, and the flight delivers the same share with the
  destination marked written.
-/
module

public import Idealize.ShloMosaic.Lib.SparseCore.Stream
public import Idealize.ShloMosaic.Lib.WriteMode

@[expose] public section

noncomputable section

namespace Cert.RowGather

open Idealize.ShloMosaic Idealize.ShloMosaic.SparseCore
open Idealize.SL Idealize.SL.RA Idealize.SL.RA.PCS
open Idealize.SL.BI (sProp bigSep)
open scoped Idealize.SL.BI
open Idealize.SL.BI.BIBase Idealize.SL.BI.Laws Idealize.SL.Sem Idealize.SL.ProofMode

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

section Rule

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The issue of an indirect gather, each row `j` of the destination given as `Pre j`, from which (under the persistent
    `C`) the row's write update is made; the flight delivers every `Post j`, the source's share and the list's. -/
theorem wp_gatherBy [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    (C : sProp 𝕄) [BI.Persistent C] (Pre Post : Fin (s.size hg.axis') → sProp 𝕄)
    [∀ j, BI.Storable (upEmb : UEmb _ 𝕄) (Post j)]
    (hw : ∀ j, iprop(C ∗ Pre j) ⊢ writeUpdate c (dst.view.slice (s.rowRect hg.axis' j))
      (fun i => src.view.read (Elt F) fs (hg.rowIdx (rows (offs.view.read (Elt F) fo) hn hin j) i)) (Post j)) :
    iprop(C ∗ (src.view.loc c ↦[src.view.set]{q} fs) ∗ bigSep Finset.univ Pre
        ∗ (offs.view.loc c ↦[offs.view.set]{qo} fo) ∗ semVal (c, SemLoc.dma sem) 0)
      ⊢ iprop((Transfers.Flight EC c (.dma sem) ι N
                iprop(bigSep Finset.univ Post ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have hpos : 0 < s.size hg.axis' := Shape.size_pos_of_numel_pos hs _
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  let am : Fin (s.size hg.axis') → ℕ := fun j => (dst.slice (s.rowRect hg.axis' j) (s.stride_rowRect hg.axis' j)).view.dmaCredit
  let part : Fin (s.size hg.axis') → sProp 𝕄 := fun j => (src.view.loc c ↦[src.view.set]{pieceOf q _ hpos j} fs)
  let D : Fin (s.size hg.axis') → sProp 𝕄 := fun j => iprop((Post j ∗ S.heldEntry qo fo j) ∗ part j)
  have hagree : S.RowsAgree := by
    rintro j x x' ρ ρ' h h'
    obtain ⟨_, -, rfl⟩ := Option.map_eq_some_iff.mp h
    obtain ⟨_, -, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hentry : Function.Bijective S.entry := si.rowMajor.symm.bijective.comp (finCongr hn.symm).bijective
  iintro ⟨#HC, Hsrc, Hpre, Hoff, Hsem⟩ Hk
  imod (Transfers.stream_alloc EC (fun j => View.dmaCredit_pos _ (rowShape_numel_pos hs _)) D (a := am) (g := (c, SemLoc.dma sem))) $$ Hsem
    with ⟨%γ, %δ, %κ, #Hinv, Hγ, Hδ⟩
  ihave Hoffs := (Entails.of_eq (pointsTo_entries c offs.view S.entry hentry qo fo)) $$ Hoff
  ihave Hparts := (Entails.of_eq (pointsTo_piecesOf (src.view.set) fs hpos q)) $$ Hsrc
  iapply (wp_enqueueIndirectDma 𝒱 c bd Set.univ (qo := qo) (fo := fo) (rd := rd) ι N hagree hrd hN) $$ [Hpre Hoffs Hparts Hγ]
  · have hrow : ∀ j, iprop((C ∗ inv κ (Transfers.streamBody EC (c, SemLoc.dma sem) am D γ δ))
          ∗ (((Pre j ∗ S.heldEntry qo fo j) ∗ part j) ∗ count EC (γ j) 0))
        ⊢ iprop(S.heldEntry qo fo j ∗ (S.heldEntry qo fo j -∗ rowRes c (rd j))) := fun j => by
      iintro ⟨⟨#HC, #Hinv⟩, ⟨⟨Hp, He⟩, Hpart⟩, Hγj⟩
      isplitl [He]; · iexact He
      iintro He
      unfold rowRes
      iexists pieceOf q _ hpos j, fs, iprop(Post j ∗ S.heldEntry qo fo j)
      isplitl [Hpart]; · iexact Hpart
      isplitl [Hp He]
      · iapply writeUpdate_frame
        isplitl [Hp]
        · iapply (hw j)
          isplitr; · iexact HC
          iexact Hp
        · iexact He
      · iapply (Transfers.stream_creditUpdate EC (a := am) (D := D) (δ := δ) j)
        isplitr; · iexact Hinv
        iexact Hγj
    unfold Stream.res
    ihave H1 := Transfers.bigSep_sep_in _ _ _ $$ [Hpre Hoffs]; · isplitl [Hpre] <;> iassumption
    ihave H2 := Transfers.bigSep_sep_in _ _ _ $$ [H1 Hparts]; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr
    · isplitr <;> iassumption
    · iexact H3
  · have hback : bigSep Finset.univ D
        ⊢ iprop(bigSep Finset.univ Post ∗ (src.view.loc c ↦[src.view.set]{q} fs) ∗ (offs.view.loc c ↦[offs.view.set]{qo} fo)) := by
      iintro HD
      ihave H1 := Transfers.bigSep_sep_out _ _ _ $$ HD
      icases H1 with ⟨H2, Hparts⟩
      ihave H3 := Transfers.bigSep_sep_out _ _ _ $$ H2
      icases H3 with ⟨Hpost, Hoffs⟩
      isplitl [Hpost]; · iexact Hpost
      isplitl [Hparts]; · iapply (Entails.of_eq (pointsTo_piecesOf (src.view.set) fs hpos q).symm) $$ Hparts
      iapply (Entails.of_eq (pointsTo_entries c offs.view S.entry hentry qo fo).symm) $$ Hoffs
    iintro Hfl
    iapply Hk
    iapply (Transfers.Flight_mono EC c hback)
    iapply (Transfers.stream_flight EC (a := am) hN)
    isplitr; · iexact Hinv
    isplitl [Hδ] <;> iassumption

end Rule

/-! ## Write mode: splitting and joining what is held of a buffer -/

section Written

variable {Val : EltTy → Type} (emb : UEmb (WmRA nD τ sig Val) U)

local notation:60 ℓ " ⇝[" I "]{" q "} " f:max " ⇒ " g:max " @ " W:max => willBeTo emb ℓ I q f g W

variable {ℓ : Loc nD τ sig} {I C W W' : Finset (Idx ℓ)} {q q₁ q₂ : PosShare TreeShare} {f : Buf Val ℓ} {g : Tgt Val ℓ}

/-- Marks off the elements held do not count. -/
theorem willBeTo_marks (h : ∀ i ∈ I, i ∈ W ↔ i ∈ W') :
    (ℓ ⇝[I]{q} f ⇒ g @ W : sProp (MT nD τ sig Ix Val Name U Lvl)) = ℓ ⇝[I]{q} f ⇒ g @ W' :=
  BI.Region.willBe_congr (fun _ _ => rfl) (fun _ _ => rfl) h

/-- A union of pairwise disjoint sets in write mode is each of them in write mode. -/
theorem willBeTo_biUnion {T : Type} [DecidableEq T] (S : Finset T) (A : T → Finset (Idx ℓ)) (hd : (S : Set T).PairwiseDisjoint A) :
    (ℓ ⇝[S.biUnion A]{q} f ⇒ g @ W : sProp (MT nD τ sig Ix Val Name U Lvl)) = bigSep S fun t => ℓ ⇝[A t]{q} f ⇒ g @ W :=
  by
  induction S using Finset.induction_on with
  | empty => rw [Finset.biUnion_empty, BI.bigSep_empty]; exact BI.Region.held_empty (υ := (wmEmb Ix emb : UEmb _ (MT nD τ sig Ix Val Name U Lvl)))
  | insert t S ht ih =>
    have hdj : Disjoint (A t) (S.biUnion A) := (Finset.disjoint_biUnion_right _ _ _).mpr fun t' ht' =>
      hd (Finset.mem_coe.mpr (Finset.mem_insert_self _ _)) (Finset.mem_coe.mpr (Finset.mem_insert_of_mem ht')) fun h => ht (h ▸ ht')
    rw [Finset.biUnion_insert, BI.bigSep_insert ht, ← ih (hd.subset (Finset.coe_subset.mpr (Finset.subset_insert _ _)))]
    exact BI.Entails.antisymm (BI.Region.held_union hdj).1 (BI.Region.held_union hdj).2

/-- The shares of a set in write mode join, and with them the marks. -/
theorem willBeTo_join (h : q ∈ q₁ ·? q₂) :
    (iprop(ℓ ⇝[I]{q₁} f ⇒ g @ W ∗ ℓ ⇝[I]{q₂} f ⇒ g @ W') : sProp (MT nD τ sig Ix Val Name U Lvl)) ⊢ ℓ ⇝[I]{q} f ⇒ g @ (W ∪ W') := by
  haveI : IsOp q q₁ q₂ := ⟨h⟩
  iintro ⟨H, H'⟩
  icombine H H' as H
  iexact H

/-- A share of a set in write mode splits, either part keeping every mark. -/
theorem willBeTo_halve (h : q ∈ q₁ ·? q₂) :
    (ℓ ⇝[I]{q} f ⇒ g @ W : sProp (MT nD τ sig Ix Val Name U Lvl)) ⊢ iprop(ℓ ⇝[I]{q₁} f ⇒ g @ W ∗ ℓ ⇝[I]{q₂} f ⇒ g @ W) := by
  haveI : IsOp q q₁ q₂ := ⟨h⟩
  iintro H
  icases H with ⟨H, H'⟩
  isplitl [H] <;> iassumption

/-- The holder of one share of a whole set LEARNS the marks that another share of a part of it carries. -/
theorem willBeTo_learn (h : q ∈ q₁ ·? q₂) (hC : C ⊆ I) :
    (iprop(ℓ ⇝[I]{q₁} f ⇒ g @ W ∗ ℓ ⇝[C]{q₂} f ⇒ g @ W') : sProp (MT nD τ sig Ix Val Name U Lvl))
      ⊢ iprop(ℓ ⇝[I]{q₁} f ⇒ g @ (W ∪ (W' ∩ C)) ∗ ℓ ⇝[C]{q₂} f ⇒ g @ (W ∪ W')) := by
  iintro ⟨H, HC⟩
  ihave H := (BI.Region.held_split_subset hC).1 $$ H
  icases H with ⟨HI, Hrest⟩
  ihave Hj := (willBeTo_join emb h) $$ [HI HC]; · isplitl [HI] <;> iassumption
  ihave Hs := (willBeTo_halve emb h) $$ Hj
  icases Hs with ⟨HI, HC⟩
  isplitr [HC]
  · iapply (BI.Region.held_split_subset hC).2
    ihave HI := (Entails.of_eq (willBeTo_marks emb (W' := W ∪ (W' ∩ C)) fun i hi => by
      simp only [Finset.mem_union, Finset.mem_inter, hi, and_true])) $$ HI
    ihave Hrest := (Entails.of_eq (willBeTo_marks emb (W' := W ∪ (W' ∩ C)) fun i hi => by
      simp only [Finset.mem_union, Finset.mem_inter, (Finset.mem_sdiff.mp hi).2, and_false, or_false])) $$ Hrest
    isplitl [HI] <;> iassumption
  · iexact HC

end Written

section WrittenRule

variable {defs : Defs nD τ sig (Elt F) Λ} (EC : UEmb Counters (MT nD τ sig Ix (Elt F) Name U Lvl)) (𝒱 : Variants) (c : Thread nD τ) (bd : Option 𝒱.V)
variable (emb : UEmb (WmRA nD τ sig (Elt F)) U) {ιwm : Name}
variable {sp : Space} {s₀ s si : Shape} {e : EltTy} {a : Nat} {α : Type} {Q : α → sProp (MT nD τ sig Ix (Elt F) Name U Lvl)}

local notation:60 ℓ " ⇝[" I "]{" q "} " f:max " ⇒ " g:max " @ " W:max => willBeTo emb ℓ I q f g W

/-- The issue of an indirect gather whose destination is in write mode, held at a share, the rows gathered being what
    the targets ask for: the flight delivers the share with the whole destination marked written. -/
theorem wp_gatherWritten [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo qd : PosShare TreeShare} {fs : Buf (Elt F) (src.view.loc c)} {fo : Buf (Elt F) (offs.view.loc c)}
    {fd : Buf (Elt F) (dst.view.loc c)} {g : Tgt (Elt F) (dst.view.loc c)}
    (ι : Ix) (N : ℕ) (hN : ∑ j, (dst.slice (s.rowRect hg.axis' j) (s.stride_rowRect hg.axis' j)).view.dmaCredit = N)
    (hs : 0 < s.numel) (hin : ∀ x, (offs.view.read (Elt F) fo x).toNat < s₀.size hg.axis)
    (hadm : dst.view.Admitted (Elt F) g
      (gatherPayload hg (src.view.read (Elt F) fs) (rows (offs.view.read (Elt F) fo) hn hin)) Finset.univ) :
    iprop(wmInv emb ιwm ∗ (src.view.loc c ↦[src.view.set]{q} fs) ∗ (dst.view.loc c ⇝[dst.view.set]{qd} fd ⇒ g @ ∅)
        ∗ (offs.view.loc c ↦[offs.view.set]{qo} fo) ∗ semVal (c, SemLoc.dma sem) 0)
      ⊢ iprop((Transfers.Flight EC c (.dma sem) ι N
                iprop((dst.view.loc c ⇝[dst.view.set]{qd} fd ⇒ g @ dst.view.set)
                  ∗ (src.view.loc c ↦[src.view.set]{q} fs) ∗ (offs.view.loc c ↦[offs.view.set]{qo} fo))
              -∗ wp frame (wpE defs 𝒱 c bd) Set.univ (k ⟨⟩) Q)
          -∗ wp frame (wpE defs 𝒱 c bd) Set.univ (enqueueIndirectGather hp src dst hg offs hn sem hsrc he hsp hr >>= k) Q) := by
  have hrows : ∀ W : Finset (Idx (dst.view.loc c)),
      (dst.view.loc c ⇝[dst.view.set]{qd} fd ⇒ g @ W : sProp 𝕄)
        = bigSep Finset.univ fun j => dst.view.loc c ⇝[(dst.view.slice (s.rowRect hg.axis' j)).set]{qd} fd ⇒ g @ W := fun W => by
    conv_lhs => rw [dst.view.set_eq_biUnion_rows hg.axis']
    exact willBeTo_biUnion emb Finset.univ _ fun k _ k' _ h => dst.view.disjoint_rows hg.axis' h
  have hrow : ∀ j, iprop(wmInv emb ιwm ∗ dst.view.loc c ⇝[(dst.view.slice (s.rowRect hg.axis' j)).set]{qd} fd ⇒ g @ ∅)
      ⊢ writeUpdate c (dst.view.slice (s.rowRect hg.axis' j))
        (fun i => src.view.read (Elt F) fs (hg.rowIdx (rows (offs.view.read (Elt F) fo) hn hin j) i))
        (dst.view.loc c ⇝[(dst.view.slice (s.rowRect hg.axis' j)).set]{qd} fd ⇒ g @ dst.view.set : sProp 𝕄) := fun j => by
    have hw := willBeTo_writeUpdate (Ix := Ix) (Lvl := Lvl) (emb := emb) (ιwm := ιwm) c (v := dst.view.slice (s.rowRect hg.axis' j))
      (w := fun i => src.view.read (Elt F) fs (hg.rowIdx (rows (offs.view.read (Elt F) fo) hn hin j) i))
      (S := (dst.view.slice (s.rowRect hg.axis' j)).set) (q := qd) (f := fd) (g := g) (W := ∅) (fun _ h => h)
      (fun x _ u hu => by
        have h := hadm ((s.rowRect hg.axis' j).emb x) (Finset.mem_univ _) u hu
        change src.view.read (Elt F) fs (hg.idx _ ((s.rowRect hg.axis' j).emb x)) = u at h
        have hi := Shape.Gathers.idx_rowRect_emb hg (rows (offs.view.read (Elt F) fo) hn hin) j x
        exact (congrArg (src.view.read (Elt F) fs) hi).symm.trans h)
    rw [show (dst.view.loc c ⇝[(dst.view.slice (s.rowRect hg.axis' j)).set]{qd} fd ⇒ g @ dst.view.set : sProp 𝕄)
      = dst.view.loc c ⇝[(dst.view.slice (s.rowRect hg.axis' j)).set]{qd} fd ⇒ g @ (∅ ∪ (dst.view.slice (s.rowRect hg.axis' j)).set) from
        willBeTo_marks emb fun i hi => by
          refine ⟨fun _ => Finset.mem_union_right _ hi, fun _ => ?_⟩
          rw [dst.view.set_eq_biUnion_rows hg.axis']
          exact Finset.mem_biUnion.mpr ⟨j, Finset.mem_univ _, hi⟩]
    exact hw
  rw [hrows ∅, hrows dst.view.set]
  exact wp_gatherBy EC 𝒱 c bd ι N hN hs hin (wmInv emb ιwm) _ _ hrow

end WrittenRule

end Cert.RowGather
-- ==== Proof.Select.lean ====
/-
  The select loops of a tile, as one program.

  The body prints each of its four select loops in full, thirty-two gather-and-store steps to a trip.  `steps` is the
  list of such steps at any group of sixteen lanes; every printed trip is one load and `steps` over the thirty-two
  output dimensions (`t2_eq` … `t5_eq`), so what is proved of `steps` by induction on the list serves all of them.
-/
module

public import proofs.«01_k».proof.Proof.Gen.KernelIdeal.Skeleton
public import proofs.«01_k».proof.Proof.RowGather
public import Idealize.ShloMosaic.Lib.SparseCore.Ops

@[expose] public section

noncomputable section

namespace Cert.Select

open Cert.KernelIdeal Cert.KernelIdeal.Gen
open Idealize.ShloMosaic Idealize.SL.Sem

variable {F : FTy → Type} [FloatOps F]

/-- The corner of the sixteen stored elements: output dimension `d`, column `n`. -/
abbrev corner (d : Fin 32) (n : ℕ) : Fin 2 → ℕ := ![d.val, n]

theorem corner_inb {n : ℕ} (hn : n ≤ 496) (d : Fin 32) : ∀ a, corner d n a + S1x16.size a ≤ S32x512.size a := by
  intro a
  have hd := d.isLt
  fin_cases a
  · show d.val + 1 ≤ 32; omega
  · show n + 16 ≤ 512; omega

/-- The rows of the group's lanes. -/
abbrev laneRows (g : BitVec 32) : IVec S16 32 := addi (iota .scVector S16 32 [0] iota_S16_d0_w32_scVector) (broadcast S16 (Scalar.muli g 16#32))

/-- The select steps of the output dimensions `ds`: gather one word a lane, store the sixteen. -/
def steps {p : Proc τ} (arg7 : Memref sig p.kind .vmem S512x128 .f32) (arg8 : Memref sig p.kind .vmem S32x512 .f32)
    (rows cols : IVec S16 32) (n : ℕ) (hn : n ≤ 496) : List (Fin 32) → Prog (TpuEff nD τ sig (Elt F) Λ₀ p) Unit
  | [] => pure ⟨⟩
  | d :: ds => do
    have hw : k1_chk1 rows (addi cols (broadcast S16 (BitVec.ofNat 32 d.val))) :=
      (← Prog.lift (TpuEff.assume (k1_chk1 rows (addi cols (broadcast S16 (BitVec.ofNat 32 d.val)))) (k1_chk1.dec _ _))).down
    let v : Vec F S16 .f32 ← SparseCore.vectorLoadIdx arg7 ![rows, addi cols (broadcast S16 (BitVec.ofNat 32 d.val))]
      (k1_idx1_inb _ _ hw) (View.loads_vmem h_S512x128)
    let _old : Vec F S1x16 .f32 ← Prog.lift (.load arg8 (Rect.unit (s := S32x512) (corner d n) S1x16.size (corner_inb hn d)).toLoadRect (View.loadsAt_vmem h_S1x16))
    Prog.lift (.store arg8 (Rect.unit (s := S32x512) (corner d n) S1x16.size (corner_inb hn d)) (shapeCast S1x16 v shapeCasts_S16_S1x16) Finset.univ
      (View.stores_vmem_bits_univ h_S1x16 rfl) (.inl rfl))
    steps arg7 arg8 rows cols n hn ds

/-- All output dimensions. -/
abbrev dims : List (Fin 32) :=
  [0, 1, 2, 3, 4, 5, 6, 7, 8, 9, 10, 11, 12, 13, 14, 15, 16, 17, 18, 19, 20, 21, 22, 23, 24, 25, 26, 27, 28, 29, 30, 31]

/-- A trip of a select loop at group `g`: the sixteen ids, then the steps. -/
def trip {p : Proc τ} (arg5 : Memref sig p.kind .vmem S512 .i32) (arg7 : Memref sig p.kind .vmem S512x128 .f32)
    (arg8 : Memref sig p.kind .vmem S32x512 .f32) (g : BitVec 32) (o : Fin 1 → ℕ) (ho : ∀ a, o a + S16.size a ≤ S512.size a)
    (hn : o 0 ≤ 496) : Prog (TpuEff nD τ sig (Elt F) Λ₀ p) Unit := do
  let ids : Vec F S16 .i32 ← Prog.lift (.load arg5 (Rect.unit (s := S512) o S16.size ho).toLoadRect (View.loadsAt_vmem h_S16))
  steps arg7 arg8 (laneRows g) (k1_pay1 ids) (o 0) hn dims

theorem col_le {o : Fin 1 → ℕ} (ho : ∀ a, o a + S16.size a ≤ S512.size a) : o 0 ≤ 496 := by
  have := ho 0
  change o 0 + 16 ≤ 512 at this
  omega

section Trips

variable (i : grid1.Coords) (arg2 : Memref sig .scVector .hbm S25088x128 .f32) (harg2 : arg2.IsWhole) (arg3 : Memref sig .scVector .hbm S16384 .i32) (harg3 : arg3.IsWhole) (arg4 : Memref sig .scVector .hbm S32x16384 .f32) (harg4 : arg4.IsWhole) (arg5 : Memref sig .scVector .vmem S512 .i32) (harg5 : arg5.IsWhole) (arg6 : Memref sig .scVector .vmem S512 .i32) (harg6 : arg6.IsWhole) (arg7 : Memref sig .scVector .vmem S512x128 .f32) (harg7 : arg7.IsWhole) (arg8 : Memref sig .scVector .vmem S32x512 .f32) (harg8 : arg8.IsWhole) (arg9 : DmaSems sig S_) (arg10 : DmaSems sig S_) (arg11 : DmaSems sig S_) (arg12 : DmaSems sig S_) (v32_r0 : DmaSems sig S_) (v32_r1 : DmaSems sig S_)

set_option maxRecDepth 65536 in
set_option maxHeartbeats 4000000 in
theorem t2_eq (t : Fin k1_t2_loop.trips) (u : Unit) :
    k1_t2_body (F := F) i arg2 harg2 arg3 harg3 arg4 harg4 arg5 harg5 arg6 harg6 arg7 harg7 arg8 harg8 arg9 arg10 arg11 arg12 v32_r0 v32_r1 t u
      = trip (p := .scVector ((i 0).castLE hcore1) ((i 1).castLE hsub1)) arg5 arg7 arg8 (Scf.iv 0#32 1#32 t) (k1_off3 t) (k1_off3_inb t) (col_le (k1_off3_inb t)) := rfl

set_option maxRecDepth 65536 in
set_option maxHeartbeats 4000000 in
theorem t3_eq (t : Fin k1_t3_loop.trips) (u : Unit) :
    k1_t3_body (F := F) i arg2 harg2 arg3 harg3 arg4 harg4 arg5 harg5 arg6 harg6 arg7 harg7 arg8 harg8 arg9 arg10 arg11 arg12 v32_r0 v32_r1 t u
      = trip (p := .scVector ((i 0).castLE hcore1) ((i 1).castLE hsub1)) arg5 arg7 arg8 (Scf.iv 8#32 1#32 t) (k1_off36 t) (k1_off36_inb t) (col_le (k1_off36_inb t)) := rfl

set_option maxRecDepth 65536 in
set_option maxHeartbeats 4000000 in
theorem t4_eq (t : Fin k1_t4_loop.trips) (u : Unit) :
    k1_t4_body (F := F) i arg2 harg2 arg3 harg3 arg4 harg4 arg5 harg5 arg6 harg6 arg7 harg7 arg8 harg8 arg9 arg10 arg11 arg12 v32_r0 v32_r1 t u
      = trip (p := .scVector ((i 0).castLE hcore1) ((i 1).castLE hsub1)) arg5 arg7 arg8 (Scf.iv 16#32 1#32 t) (k1_off69 t) (k1_off69_inb t) (col_le (k1_off69_inb t)) := rfl

set_option maxRecDepth 65536 in
set_option maxHeartbeats 4000000 in
theorem t5_eq (t : Fin k1_t5_loop.trips) (u : Unit) :
    k1_t5_body (F := F) i arg2 harg2 arg3 harg3 arg4 harg4 arg5 harg5 arg6 harg6 arg7 harg7 arg8 harg8 arg9 arg10 arg11 arg12 v32_r0 v32_r1 t u
      = trip (p := .scVector ((i 0).castLE hcore1) ((i 1).castLE hsub1)) arg5 arg7 arg8 (Scf.iv 24#32 1#32 t) (k1_off102 t) (k1_off102_inb t) (col_le (k1_off102_inb t)) := rfl

end Trips

/-! ## Running the steps -/

section Run

open Idealize.ShloMosaic.SparseCore
open Idealize.SL Idealize.SL.RA
open Idealize.SL.BI (sProp)
open scoped Idealize.SL.BI
open Idealize.SL.BI.BIBase Idealize.SL.BI.Laws Idealize.SL.ProofMode

variable {Ix : Type} [DecidableEq Ix] {Name : Type} [DecidableEq Name] {U : Type} [URA U] {Lvl : Type} [Preorder Lvl]
variable {defs : Defs nD τ sig (Elt F) Λ₀} (𝒱 : Variants) (c : Thread nD τ) (bd : Option 𝒱.V)
variable (emb : UEmb (WmRA nD τ sig (Elt F)) U) {ιwm : Name}
variable {Q : Unit → sProp (MT nD τ sig Ix (Elt F) Name U Lvl)}

local notation "𝕄" => MT nD τ sig Ix (Elt F) Name U Lvl
local notation:60 ℓ " ⇝[" I "]{" q "} " f:max " ⇒ " g:max " @ " W:max => willBeTo emb ℓ I q f g W

variable {arg7 : Memref sig c.2.kind .vmem S512x128 .f32} {arg8 : Memref sig c.2.kind .vmem S32x512 .f32}

theorem whole_idx {s : Shape} (y : s.Idx) : (LoadRect.whole s).idx y = y := Rect.emb_whole_apply _ _

/-- The row of output dimension `d` written with the sixteen values `v` from column `n` on. -/
def put (arg8 : Memref sig c.2.kind .vmem S32x512 .f32) (n : ℕ) (hn : n ≤ 496) (x : Buf (Elt F) (arg8.view.loc c)) (d : Fin 32) (v : S16.Idx → Elt F .f32) :
    Buf (Elt F) (arg8.view.loc c) :=
  (arg8.access (Rect.unit (s := S32x512) (corner d n) S1x16.size (corner_inb hn d))).write (Elt F) x (shapeCast S1x16 (v : Vec F S16 .f32) shapeCasts_S16_S1x16) Finset.univ

/-- The steps of `ds` run: the words of the rows named are known written, so what is gathered is what the targets say,
    whatever the copies still in flight have done to the others. -/
theorem wp_steps {rows cols : IVec S16 32} {n : ℕ} (hn : n ≤ 496) {S7 : Finset (Idx (arg7.view.loc c))} (hS7 : arg7.view.set ⊆ S7)
    {S8 : Finset (Idx (arg8.view.loc c))} (hS8 : arg8.view.set ⊆ S8)
    {q : PosShare TreeShare} {f g : Buf (Elt F) (arg7.view.loc c)} {W : Finset (Idx (arg7.view.loc c))}
    (hin : ∀ d : Fin 32, k1_chk1 rows (addi cols (broadcast S16 (BitVec.ofNat 32 d.val))))
    (hmark : ∀ (d : Fin 32) (l : S16.Idx), arg7.view.emb (idxAt ![rows, addi cols (broadcast S16 (BitVec.ofNat 32 d.val))] (hin d) l) ∈ W)
    (ds : List (Fin 32)) : ∀ x : Buf (Elt F) (arg8.view.loc c),
    (iprop(wmInv emb ιwm ∗ (arg7.view.loc c ⇝[S7]{q} f ⇒ (fun i => some (g i)) @ W) ∗ arg8.view.loc c ↦[S8]{fullShare} x) : sProp 𝕄)
      ⊢ iprop(((arg7.view.loc c ⇝[S7]{q} f ⇒ (fun i => some (g i)) @ W)
            ∗ (arg8.view.loc c ↦[S8]{fullShare} (ds.foldl (fun x d => put c arg8 n hn x d fun l =>
                arg7.view.read (Elt F) g (idxAt ![rows, addi cols (broadcast S16 (BitVec.ofNat 32 d.val))] (hin d) l)) x)) -∗ Q ⟨⟩)
          -∗ wp frame (wpE defs 𝒱 c bd) Set.univ (steps (p := c.2) arg7 arg8 rows cols n hn ds) Q) := by
  induction ds with
  | nil =>
    intro x
    iintro ⟨-, H7, H8⟩ HQ
    simp only [steps, List.foldl_nil]
    rw [wp_pure]
    imodintro
    iapply HQ
    isplitl [H7] <;> iassumption
  | cons d ds ih =>
    intro x
    iintro ⟨#Hinv, H7, H8⟩ HQ
    unfold steps
    iapply (wp_assume 𝒱 c bd Set.univ (hin d))
    iapply (wp_load_willBeTo (emb := emb) 𝒱 c bd Set.univ (m := arg7) (r := .whole S512x128) (S := S7) (q := q) (f := f) (g := fun i => some (g i)) (W := W)
      ((arg7.view.setOn_subset_set _).trans hS7)) $$ [H7]
    · isplitr; · iexact Hinv
      iexact H7
    iintro %cur %W' %hcur H7
    have hv : loadIdx (F := F) (arg7.view.readAt (Elt F) (.whole S512x128) cur) ![rows, addi cols (broadcast S16 (BitVec.ofNat 32 d.val))] (hin d)
        = fun l => arg7.view.read (Elt F) g (idxAt ![rows, addi cols (broadcast S16 (BitVec.ofNat 32 d.val))] (hin d) l) := by
      funext l
      have hl := (hcur.2 _ (hS7 (View.emb_mem_set _ _))).2 (hcur.1 (hmark d l)) _ rfl
      change arg7.view.readAt (Elt F) (.whole S512x128) cur (idxAt _ (hin d) l) = _
      rw [View.readAt_apply, whole_idx, View.read_apply, View.read_apply]
      exact congrArg _ hl
    iapply (wp_load_rect (defs := defs) 𝒱 c bd Set.univ (m := arg8) (r := Rect.unit (s := S32x512) (corner d n) S1x16.size (corner_inb hn d))
      (S := S8) (q := fullShare) (f := x) ((View.set_slice_subset _ _).trans hS8)) $$ H8
    iintro H8
    iapply (wp_store (defs := defs) 𝒱 c bd Set.univ (m := arg8) (r := Rect.unit (s := S32x512) (corner d n) S1x16.size (corner_inb hn d)) (Mk := Finset.univ)
      (S := S8) (f := x) ((View.set_slice_subset _ _).trans hS8)) $$ H8
    iintro H8
    rw [hv]
    rw [List.foldl_cons]
    iapply (ih (put c arg8 n hn x d fun l => arg7.view.read (Elt F) g (idxAt ![rows, addi cols (broadcast S16 (BitVec.ofNat 32 d.val))] (hin d) l))) $$ [H7 H8]
    · isplitr; · iexact Hinv
      isplitl [H7]; · iexact H7
      iexact H8
    iexact HQ

end Run

end Cert.Select
-- ==== Proof.Words.lean ====
/-
  The index arithmetic of a tile, on words.

  An id below 100000 names a row of the table (its remainder by 25088) and a quarter of it (its quotient); the kernel
  takes the remainder by `arith.remsi` and the quotient by shifts and a multiplication.
-/
module

public import Idealize.ShloMosaic.Lib.Pipeline.Value
public import proofs.«01_k».proof.Proof.Gen.KernelIdeal.Skeleton

@[expose] public section

noncomputable section

namespace Cert.Words

open Idealize.ShloMosaic

theorem shifted : ∀ m < 196, m * 1338 / 65536 = m / 49 := by decide

/-- Thirty-two times the quotient by 25088, as shifted and multiplied. -/
theorem quarter_toNat (w : BitVec 32) (h : w.toNat < 100000) :
    (IntOp.muli (IntOp.shrui .vector (IntOp.muli (IntOp.shrui .vector w 9#32) 1338#32) 16#32) 32#32).toNat = 32 * (w.toNat / 25088) := by
  have h9 : (9#32 : BitVec 32).toNat < 32 := by decide
  have h16 : (16#32 : BitVec 32).toNat < 32 := by decide
  simp only [IntOp.muli, IntOp.shrui, if_pos h9, if_pos h16]
  simp only [BitVec.toNat_mul, BitVec.ushiftRight_eq', BitVec.toNat_ushiftRight, BitVec.toNat_ofNat, Nat.shiftRight_eq_div_pow]
  simp only [Nat.reducePow, Nat.reduceMod]
  have hm : w.toNat / 512 < 196 := by omega
  have hq : w.toNat / 25088 = w.toNat / 512 / 49 := by rw [Nat.div_div_eq_div_mul]
  have hs : w.toNat / 512 * 1338 / 65536 = w.toNat / 512 / 49 := shifted _ hm
  rw [hq, Nat.mod_eq_of_lt (a := w.toNat / 512 * 1338) (by omega), hs, Nat.mod_eq_of_lt (by omega), Nat.mul_comm]

/-- The remainder by 25088. -/
theorem row_toNat (w : BitVec 32) (h : w.toNat < 100000) :
    (IntOp.remsi .vector w 25088#32).toNat = w.toNat % 25088 := by
  have hc : ¬ IntOp.SDivCorner w 25088#32 := by
    unfold IntOp.SDivCorner
    rintro (h0 | ⟨_, h1⟩)
    · exact absurd h0 (by decide)
    · exact absurd h1 (by decide)
  simp only [IntOp.remsi, if_neg hc]
  have hw : w.msb = false := by
    rw [BitVec.msb_eq_false_iff_two_mul_lt]; omega
  rw [BitVec.srem_eq, hw]
  have hn : (25088#32 : BitVec 32).msb = false := by decide
  rw [hn]
  simp [BitVec.toNat_umod]

end Cert.Words
-- ==== Proof.SelectRun.lean ====
/-
  What a trip of a select loop leaves.

  `Done T N x`: the first `N` columns of the selected block read as the table's words `T`.  A trip at group `g` takes
  `Done T (16 g)` to `Done T (16 g + 16)`, provided the rows of its sixteen lanes are known written.
-/
module

public import proofs.«01_k».proof.Proof.Select
public import proofs.«01_k».proof.Proof.Words
public import Idealize.ShloMosaic.Lib.ValueIdxCoords

@[expose] public section

noncomputable section

namespace Cert.Select

open Cert.KernelIdeal Cert.KernelIdeal.Gen
open Idealize.ShloMosaic Idealize.SL.Sem Idealize.ShloMosaic.SparseCore Idealize.ShloMosaic.ValueIdx
open Idealize.SL Idealize.SL.RA
open Idealize.SL.BI (sProp)
open scoped Idealize.SL.BI
open Idealize.SL.BI.BIBase Idealize.SL.BI.Laws Idealize.SL.ProofMode

variable {F : FTy → Type} [FloatOps F]

section Pure

variable (c : Thread nD τ) {arg8 : Memref sig c.2.kind .vmem S32x512 .f32}

/-- The first `N` columns read as `T`. -/
def Done (arg8 : Memref sig c.2.kind .vmem S32x512 .f32) (T : S32x512.Idx → Elt F .f32) (N : ℕ) (x : Buf (Elt F) (arg8.view.loc c)) : Prop :=
  ∀ y : S32x512.Idx, (y 1).val < N → arg8.view.read (Elt F) x y = T y

/-- A place reads right after a step if it did before, or is one of the step's own. -/
theorem put_good {n : ℕ} (hn : n ≤ 496) (T : S32x512.Idx → Elt F .f32) (x : Buf (Elt F) (arg8.view.loc c)) (d : Fin 32) (v : S16.Idx → Elt F .f32)
    (hv : ∀ (l : S16.Idx) (y : S32x512.Idx), (y 0).val = d.val → (y 1).val = n + (l 0).val → v l = T y) (y : S32x512.Idx)
    (h : arg8.view.read (Elt F) x y = T y ∨ ((y 0).val = d.val ∧ n ≤ (y 1).val ∧ (y 1).val < n + 16)) :
    arg8.view.read (Elt F) (put c arg8 n hn x d v) y = T y := by
  by_cases hy : (y 0).val = d.val ∧ n ≤ (y 1).val ∧ (y 1).val < n + 16
  · obtain ⟨h0, h1, h2⟩ := hy
    have hx : ∀ a, (y a).val = (Rect.unit (s := S32x512) (corner d n) S1x16.size (corner_inb hn d)).off a
        + (Rect.unit (s := S32x512) (corner d n) S1x16.size (corner_inb hn d)).stride a
          * (ix2 (n0 := 1) (n1 := 16) ⟨0, by decide⟩ ⟨(y 1).val - n, by omega⟩ a).val := by
      intro a
      fin_cases a
      · show (y 0).val = d.val + 1 * 0; omega
      · show (y 1).val = n + 1 * ((y 1).val - n); omega
    refine (View.read_writes_cons_hit_of_coords arg8.view x (Rect.unit (s := S32x512) (corner d n) S1x16.size (corner_inb hn d)) _ [] _ y hx).trans ?_
    refine (shapeCast_addUnit_apply ![16] v shapeCasts_S16_S1x16 (ix2 (n0 := 1) (n1 := 16) ⟨0, by decide⟩ ⟨(y 1).val - n, by omega⟩)).trans ?_
    refine hv _ y h0 ?_
    show (y 1).val = n + ((y 1).val - n)
    omega
  · have hr := h.resolve_right hy
    rw [← hr]
    refine View.read_writes_cons_miss arg8.view x ⟨Rect.unit (s := S32x512) (corner d n) S1x16.size (corner_inb hn d), _⟩ [] y fun hm => hy ?_
    obtain ⟨j0, hj0, e0⟩ := (Rect.unit (s := S32x512) (corner d n) S1x16.size (corner_inb hn d)).mem_set.mp hm 0
    obtain ⟨j1, hj1, e1⟩ := (Rect.unit (s := S32x512) (corner d n) S1x16.size (corner_inb hn d)).mem_set.mp hm 1
    change j0 < 1 at hj0; change j1 < 16 at hj1
    change (y 0).val = d.val + 1 * j0 at e0; change (y 1).val = n + 1 * j1 at e1
    omega

/-- The steps of a whole group: every output dimension of its sixteen columns reads right. -/
theorem puts_good {n : ℕ} (hn : n ≤ 496) (T : S32x512.Idx → Elt F .f32) (v : Fin 32 → S16.Idx → Elt F .f32)
    (hv : ∀ (d : Fin 32) (l : S16.Idx) (y : S32x512.Idx), (y 0).val = d.val → (y 1).val = n + (l 0).val → v d l = T y) (y : S32x512.Idx) (ds : List (Fin 32)) :
    ∀ x : Buf (Elt F) (arg8.view.loc c), (arg8.view.read (Elt F) x y = T y ∨ (y 0 ∈ ds ∧ n ≤ (y 1).val ∧ (y 1).val < n + 16)) →
      arg8.view.read (Elt F) (ds.foldl (fun x d => put c arg8 n hn x d (v d)) x) y = T y := by
  induction ds with
  | nil => rintro x (h | ⟨h, -⟩); exacts [h, absurd h List.not_mem_nil]
  | cons d ds ih =>
    intro x h
    rw [List.foldl_cons]
    refine ih _ ?_
    rcases h with h | ⟨h, h1⟩
    · exact .inl (put_good c hn T x d _ (hv d) y (.inl h))
    · rcases List.mem_cons.mp h with h | h
      · exact .inl (put_good c hn T x d _ (hv d) y (.inr ⟨congrArg Fin.val h, h1⟩))
      · exact .inr ⟨h, h1⟩

theorem mem_dims (d : Fin 32) : d ∈ dims := by revert d; decide

theorem done_group {n : ℕ} (hn : n ≤ 496) (T : S32x512.Idx → Elt F .f32) (v : Fin 32 → S16.Idx → Elt F .f32)
    (hv : ∀ (d : Fin 32) (l : S16.Idx) (y : S32x512.Idx), (y 0).val = d.val → (y 1).val = n + (l 0).val → v d l = T y)
    (x : Buf (Elt F) (arg8.view.loc c)) (hx : Done c arg8 T n x) :
    Done c arg8 T (n + 16) (dims.foldl (fun x d => put c arg8 n hn x d (v d)) x) := by
  intro y hy
  refine puts_good c hn T v hv y dims x ?_
  rcases Nat.lt_or_ge (y 1).val n with h | h
  · exact .inl (hx y h)
  · exact .inr ⟨mem_dims _, h, hy⟩

end Pure

/-! ## A trip -/

section Trip

variable {Ix : Type} [DecidableEq Ix] {Name : Type} [DecidableEq Name] {U : Type} [URA U] {Lvl : Type} [Preorder Lvl]
variable {defs : Defs nD τ sig (Elt F) Λ₀} (𝒱 : Variants) (c : Thread nD τ) (bd : Option 𝒱.V)
variable (emb : UEmb (WmRA nD τ sig (Elt F)) U) {ιwm : Name}
variable {Q : Unit → sProp (MT nD τ sig Ix (Elt F) Name U Lvl)}

local notation "𝕄" => MT nD τ sig Ix (Elt F) Name U Lvl
local notation:60 ℓ " ⇝[" I "]{" q "} " f:max " ⇒ " g:max " @ " W:max => willBeTo emb ℓ I q f g W

variable {arg5 : Memref sig c.2.kind .vmem S512 .i32} {arg7 : Memref sig c.2.kind .vmem S512x128 .f32} {arg8 : Memref sig c.2.kind .vmem S32x512 .f32}

theorem laneRows_toNat (g : BitVec 32) (hg : g.toNat < 32) (l : S16.Idx) : (laneRows g l).toNat = 16 * g.toNat + (l 0).val := by
  have hl : (l 0).val < 16 := (l 0).isLt
  unfold laneRows addi broadcast Scalar.muli IntOp.addi IntOp.muli
  rw [iota_single_apply]
  simp only [BitVec.toNat_add, BitVec.toNat_mul, BitVec.toNat_ofNat]
  omega

theorem cols_toNat (w : S16.Idx → BitVec 32) (l : S16.Idx) (h : (w l).toNat < 100000) (d : Fin 32) :
    (addi (k1_pay1 (F := F) w) (broadcast S16 (BitVec.ofNat 32 d.val)) l).toNat = 32 * ((w l).toNat / 25088) + d.val := by
  have hd := d.isLt
  have hq := Words.quarter_toNat (w l) h
  unfold addi broadcast IntOp.addi
  rw [BitVec.toNat_add, show (k1_pay1 (F := F) w l).toNat = 32 * ((w l).toNat / 25088) from hq, BitVec.toNat_ofNat]
  omega

/-- A trip at group `g`. -/
theorem wp_trip {g : BitVec 32} (hg : g.toNat < 32) {o : Fin 1 → ℕ} (ho : ∀ a, o a + S16.size a ≤ S512.size a) (hn : o 0 ≤ 496) (hog : o 0 = 16 * g.toNat)
    {S5 : Finset (Idx (arg5.view.loc c))} (hS5 : arg5.view.set ⊆ S5)
    {S7 : Finset (Idx (arg7.view.loc c))} (hS7 : arg7.view.set ⊆ S7)
    {S8 : Finset (Idx (arg8.view.loc c))} (hS8 : arg8.view.set ⊆ S8)
    {q q5 : PosShare TreeShare} {f t : Buf (Elt F) (arg7.view.loc c)} {W : Finset (Idx (arg7.view.loc c))}
    {fi : Buf (Elt F) (arg5.view.loc c)} {x : Buf (Elt F) (arg8.view.loc c)} (T : S32x512.Idx → Elt F .f32)
    (hids : ∀ y : S512.Idx, (arg5.view.read (Elt F) fi y).toNat < 100000)
    (hmark : ∀ z : S512x128.Idx, 16 * g.toNat ≤ (z 0).val → (z 0).val < 16 * g.toNat + 16 → arg7.view.emb z ∈ W)
    (hT : ∀ (y : S32x512.Idx) (k : S512.Idx) (z : S512x128.Idx), (k 0).val = (y 1).val → (z 0).val = (y 1).val →
      (z 1).val = 32 * ((arg5.view.read (Elt F) fi k).toNat / 25088) + (y 0).val → arg7.view.read (Elt F) t z = T y)
    (hx : Done c arg8 T (16 * g.toNat) x) :
    (iprop(wmInv emb ιwm ∗ (arg5.view.loc c ↦[S5]{q5} fi) ∗ (arg7.view.loc c ⇝[S7]{q} f ⇒ (fun i => some (t i)) @ W) ∗ arg8.view.loc c ↦[S8]{fullShare} x) : sProp 𝕄)
      ⊢ iprop(((arg5.view.loc c ↦[S5]{q5} fi) ∗ (arg7.view.loc c ⇝[S7]{q} f ⇒ (fun i => some (t i)) @ W)
            ∗ (∃ x', ⌜Done c arg8 T (16 * g.toNat + 16) x'⌝ ∗ arg8.view.loc c ↦[S8]{fullShare} x') -∗ Q ⟨⟩)
          -∗ wp frame (wpE defs 𝒱 c bd) Set.univ (trip (p := c.2) arg5 arg7 arg8 g o ho hn) Q) := by
  have hw : ∀ l : S16.Idx, (arg5.view.readAt (Elt F) (Rect.unit (s := S512) o S16.size ho).toLoadRect fi l).toNat < 100000 := fun l => hids _
  have hin : ∀ d : Fin 32, k1_chk1 (laneRows g) (addi (k1_pay1 (F := F) (arg5.view.readAt (Elt F) (Rect.unit (s := S512) o S16.size ho).toLoadRect fi))
      (broadcast S16 (BitVec.ofNat 32 d.val))) := by
    intro d a l
    have hl : (l 0).val < 16 := (l 0).isLt
    have hd := d.isLt
    fin_cases a
    · show (laneRows g l).toNat < 512
      rw [laneRows_toNat g hg]; omega
    · show BitVec.toNat (addi _ _ l) < 128
      rw [cols_toNat _ l (hw l) d]
      have := hw l
      omega
  iintro ⟨#Hinv, H5, H7, H8⟩ HQ
  unfold trip
  iapply (wp_load_rect (defs := defs) 𝒱 c bd Set.univ (m := arg5) (r := Rect.unit (s := S512) o S16.size ho)
      (S := S5) (q := q5) (f := fi) ((View.set_slice_subset _ _).trans hS5)) $$ H5
  iintro H5
  iapply (wp_steps 𝒱 c bd emb hn hS7 hS8 hin (fun d l => hmark _ ?_ ?_) dims x) $$ [H7 H8]
  · show 16 * g.toNat ≤ (laneRows g l).toNat
    rw [laneRows_toNat g hg]; omega
  · show (laneRows g l).toNat < 16 * g.toNat + 16
    have hl : (l 0).val < 16 := (l 0).isLt
    rw [laneRows_toNat g hg]; omega
  · isplitr; · iexact Hinv
    isplitl [H7] <;> iassumption
  iintro ⟨H7, H8⟩
  iapply HQ
  isplitl [H5]; · iexact H5
  isplitl [H7]; · iexact H7
  iexists _
  isplitr [H8]
  rotate_left
  · iexact H8
  · ipureintro
    intro y hy
    refine done_group c hn T (fun d l => arg7.view.read (Elt F) t (idxAt _ (hin d) l)) ?_ x (by rw [hog]; exact hx) y (by rw [hog]; exact hy)
    · intro d l y h0 h1
      refine hT y ((Rect.unit (s := S512) o S16.size ho).emb l) _ ?_ ?_ ?_
      · show o 0 + 1 * (l 0).val = _
        omega
      · show (laneRows g l).toNat = _
        rw [laneRows_toNat g hg]; omega
      · show BitVec.toNat (addi _ _ l) = _
        rw [cols_toNat _ l (hw l) d, h0]
        rfl

end Trip

end Cert.Select
-- ==== Proof.Loops.lean ====
/-
  The loops of a tile, run.

  `wp_reduce`: the first loop writes the rows of the packed table, each id's remainder by 25088.  `wp_group`: a select
  loop of eight trips takes `Done T (16 G)` to `Done T (16 (G + 8))`.
-/
module

public import proofs.«01_k».proof.Proof.SelectRun

@[expose] public section

noncomputable section

namespace Cert.Select

open Cert.KernelIdeal Cert.KernelIdeal.Gen
open Idealize.ShloMosaic Idealize.SL.Sem Idealize.ShloMosaic.SparseCore Idealize.ShloMosaic.ValueIdx
open Idealize.SL Idealize.SL.RA
open Idealize.SL.BI (sProp)
open scoped Idealize.SL.BI
open Idealize.SL.BI.BIBase Idealize.SL.BI.Laws Idealize.SL.ProofMode

variable {F : FTy → Type} [FloatOps F]

/-- A trip of the first loop: sixteen ids, their remainders stored at the same places. -/
def reduceTrip {p : Proc τ} (arg5 arg6 : Memref sig p.kind .vmem S512 .i32) (o : Fin 1 → ℕ) (ho : ∀ a, o a + S16.size a ≤ S512.size a) :
    Prog (TpuEff nD τ sig (Elt F) Λ₀ p) Unit := do
  let v : Vec F S16 .i32 ← Prog.lift (.load arg5 (Rect.unit (s := S512) o S16.size ho).toLoadRect (View.loadsAt_vmem h_S16))
  let _old : Vec F S16 .i32 ← Prog.lift (.load arg6 (Rect.unit (s := S512) o S16.size ho).toLoadRect (View.loadsAt_vmem h_S16))
  Prog.lift (.store arg6 (Rect.unit (s := S512) o S16.size ho) (k1_pay133 v) Finset.univ (View.stores_vmem_bits_univ h_S16 rfl) (.inl rfl))

section T1
variable (i : grid1.Coords) (arg2 : Memref sig .scVector .hbm S25088x128 .f32) (harg2 : arg2.IsWhole) (arg3 : Memref sig .scVector .hbm S16384 .i32) (harg3 : arg3.IsWhole) (arg4 : Memref sig .scVector .hbm S32x16384 .f32) (harg4 : arg4.IsWhole) (arg5 : Memref sig .scVector .vmem S512 .i32) (harg5 : arg5.IsWhole) (arg6 : Memref sig .scVector .vmem S512 .i32) (harg6 : arg6.IsWhole) (arg7 : Memref sig .scVector .vmem S512x128 .f32) (harg7 : arg7.IsWhole) (arg8 : Memref sig .scVector .vmem S32x512 .f32) (harg8 : arg8.IsWhole) (arg9 : DmaSems sig S_) (arg10 : DmaSems sig S_) (arg11 : DmaSems sig S_) (arg12 : DmaSems sig S_) (v32_r0 : DmaSems sig S_) (v32_r1 : DmaSems sig S_)

theorem t1_eq (t : Fin k1_t1_loop.trips) (u : Unit) :
    k1_t1_body (F := F) i arg2 harg2 arg3 harg3 arg4 harg4 arg5 harg5 arg6 harg6 arg7 harg7 arg8 harg8 arg9 arg10 arg11 arg12 v32_r0 v32_r1 t u
      = reduceTrip (p := .scVector ((i 0).castLE hcore1) ((i 1).castLE hsub1)) arg5 arg6 (k1_off2 t) (k1_off2_inb t) := rfl
end T1

/-- Where the trips of the loops stand. -/
theorem t1_trips : k1_t1_loop.trips = 32 := by decide
theorem off2_at : ∀ t : Fin k1_t1_loop.trips, k1_off2 t 0 = 16 * t.val := by decide
theorem t2_at : ∀ t : Fin k1_t2_loop.trips, (Scf.iv 0#32 1#32 t).toNat = 0 + t.val ∧ k1_off3 t 0 = 16 * (Scf.iv 0#32 1#32 t).toNat := by decide
theorem t3_at : ∀ t : Fin k1_t3_loop.trips, (Scf.iv 8#32 1#32 t).toNat = 8 + t.val ∧ k1_off36 t 0 = 16 * (Scf.iv 8#32 1#32 t).toNat := by decide
theorem t4_at : ∀ t : Fin k1_t4_loop.trips, (Scf.iv 16#32 1#32 t).toNat = 16 + t.val ∧ k1_off69 t 0 = 16 * (Scf.iv 16#32 1#32 t).toNat := by decide
theorem t5_at : ∀ t : Fin k1_t5_loop.trips, (Scf.iv 24#32 1#32 t).toNat = 24 + t.val ∧ k1_off102 t 0 = 16 * (Scf.iv 24#32 1#32 t).toNat := by decide

section Run

variable {Ix : Type} [DecidableEq Ix] {Name : Type} [DecidableEq Name] {U : Type} [URA U] {Lvl : Type} [Preorder Lvl]
variable {defs : Defs nD τ sig (Elt F) Λ₀} (𝒱 : Variants) (c : Thread nD τ) (bd : Option 𝒱.V)
variable (emb : UEmb (WmRA nD τ sig (Elt F)) U) {ιwm : Name}
variable {α : Type} {Q : α → sProp (MT nD τ sig Ix (Elt F) Name U Lvl)} {kk : Unit → Prog (TpuEff nD τ sig (Elt F) Λ₀ c.2) α}

local notation "𝕄" => MT nD τ sig Ix (Elt F) Name U Lvl
local notation:60 ℓ " ⇝[" I "]{" q "} " f:max " ⇒ " g:max " @ " W:max => willBeTo emb ℓ I q f g W

variable {arg5 arg6 : Memref sig c.2.kind .vmem S512 .i32} {arg7 : Memref sig c.2.kind .vmem S512x128 .f32} {arg8 : Memref sig c.2.kind .vmem S32x512 .f32}

/-- The first `N` rows written. -/
def Reduced (arg6 : Memref sig c.2.kind .vmem S512 .i32) (ids : S512.Idx → BitVec 32) (N : ℕ) (x : Buf (Elt F) (arg6.view.loc c)) : Prop :=
  ∀ y : S512.Idx, (y 0).val < N → (arg6.view.read (Elt F) x y : BitVec 32) = IntOp.remsi .vector (ids y) 25088#32

/-- The first loop. -/
theorem wp_reduce (hok : k1_t1_loop.OK) (body : Fin k1_t1_loop.trips → Unit → Prog (TpuEff nD τ sig (Elt F) Λ₀ c.2) Unit)
    (hbody : ∀ t u, body t u = reduceTrip (p := c.2) arg5 arg6 (k1_off2 t) (k1_off2_inb t))
    {S5 : Finset (Idx (arg5.view.loc c))} (hS5 : arg5.view.set ⊆ S5)
    {S6 : Finset (Idx (arg6.view.loc c))} (hS6 : arg6.view.set ⊆ S6) {q5 : PosShare TreeShare}
    {fi : Buf (Elt F) (arg5.view.loc c)} {x : Buf (Elt F) (arg6.view.loc c)} :
    (iprop((arg5.view.loc c ↦[S5]{q5} fi) ∗ arg6.view.loc c ↦[S6]{fullShare} x) : sProp 𝕄)
      ⊢ iprop(((arg5.view.loc c ↦[S5]{q5} fi)
            ∗ (∃ x', ⌜Reduced c arg6 (arg5.view.read (Elt F) fi) 512 x'⌝ ∗ arg6.view.loc c ↦[S6]{fullShare} x')
              -∗ wp frame (wpE defs 𝒱 c bd) Set.univ (kk ⟨⟩) Q)
          -∗ wp frame (wpE defs 𝒱 c bd) Set.univ (Scf.Loop.for k1_t1_loop hok ⟨⟩ body >>= kk) Q) := by
  iintro ⟨H5, H6⟩ HK
  iapply (Scf.wp_for_bind frame (wpE defs 𝒱 c bd) Set.univ k1_t1_loop.lb k1_t1_loop.ub k1_t1_loop.st hok ⟨⟩ body
    (fun k _ => iprop((arg5.view.loc c ↦[S5]{q5} fi)
      ∗ ∃ x', ⌜Reduced c arg6 (arg5.view.read (Elt F) fi) (16 * k) x'⌝ ∗ arg6.view.loc c ↦[S6]{fullShare} x')) ?_) $$ [H5 H6]
  · intro t u
    rw [hbody]
    unfold reduceTrip
    iintro ⟨H5, %x', %hx, H6⟩
    iapply (wp_load_rect (defs := defs) 𝒱 c bd Set.univ (m := arg5) (r := Rect.unit (s := S512) (k1_off2 t) S16.size (k1_off2_inb t))
      (S := S5) (q := q5) (f := fi) ((View.set_slice_subset _ _).trans hS5)) $$ H5
    iintro H5
    iapply (wp_load_rect (defs := defs) 𝒱 c bd Set.univ (m := arg6) (r := Rect.unit (s := S512) (k1_off2 t) S16.size (k1_off2_inb t))
      (S := S6) (q := fullShare) (f := x') ((View.set_slice_subset _ _).trans hS6)) $$ H6
    iintro H6
    iapply (wp_store (defs := defs) 𝒱 c bd Set.univ (m := arg6) (r := Rect.unit (s := S512) (k1_off2 t) S16.size (k1_off2_inb t)) (Mk := Finset.univ)
      (S := S6) (f := x') ((View.set_slice_subset _ _).trans hS6)) $$ H6
    iintro H6
    rw [wp_ret]
    imodintro
    isplitl [H5]; · iexact H5
    iexists _
    isplitr [H6]
    rotate_left
    · iexact H6
    ipureintro
    intro y hy
    have ho := off2_at t
    by_cases h : 16 * t.val ≤ (y 0).val
    · have hc : ∀ a, (y a).val = (Rect.unit (s := S512) (k1_off2 t) S16.size (k1_off2_inb t)).off a
          + (Rect.unit (s := S512) (k1_off2 t) S16.size (k1_off2_inb t)).stride a * (ix1 (n := 16) ⟨(y 0).val - 16 * t.val, by omega⟩ a).val := by
        intro a
        fin_cases a
        show (y 0).val = k1_off2 t 0 + 1 * ((y 0).val - 16 * t.val)
        omega
      refine (View.read_writes_cons_hit_of_coords arg6.view x' (Rect.unit (s := S512) (k1_off2 t) S16.size (k1_off2_inb t)) _ [] _ y hc).trans ?_
      have he : (Rect.unit (s := S512) (k1_off2 t) S16.size (k1_off2_inb t)).emb (ix1 (n := 16) ⟨(y 0).val - 16 * t.val, by omega⟩) = y := by
        funext a
        exact Fin.ext (hc a).symm
      show IntOp.remsi .vector (arg5.view.read (Elt F) fi ((Rect.unit (s := S512) (k1_off2 t) S16.size (k1_off2_inb t)).emb (ix1 (n := 16) ⟨(y 0).val - 16 * t.val, by omega⟩))) 25088#32 = _
      rw [he]
    · rw [← hx y (by omega)]
      refine View.read_writes_cons_miss arg6.view x' ⟨Rect.unit (s := S512) (k1_off2 t) S16.size (k1_off2_inb t), _⟩ [] y fun hm => h ?_
      obtain ⟨j0, hj0, e0⟩ := (Rect.unit (s := S512) (k1_off2 t) S16.size (k1_off2_inb t)).mem_set.mp hm 0
      change (y 0).val = k1_off2 t 0 + 1 * j0 at e0
      omega
  · isplitl [H5]; · iexact H5
    iexists x
    isplitr [H6]
    rotate_left
    · iexact H6
    ipureintro
    intro y hy
    omega
  iintro %u ⟨H5, %x', %hx, H6⟩
  iapply HK
  isplitl [H5]; · iexact H5
  iexists x'
  isplitr [H6]
  rotate_left
  · iexact H6
  ipureintro
  intro y hy
  exact hx y (by show _ < 16 * k1_t1_loop.trips; rw [t1_trips]; omega)

/-- A select loop of eight trips from group `G` on. -/
theorem wp_group (L : Scf.Loop 32) (hok : L.OK) (hL : L.trips = 8) (G : ℕ) (hG : G + 8 ≤ 32)
    (body : Fin L.trips → Unit → Prog (TpuEff nD τ sig (Elt F) Λ₀ c.2) Unit)
    (hbody : ∀ t u, ∃ (g : BitVec 32) (o : Fin 1 → ℕ) (ho : ∀ a, o a + S16.size a ≤ S512.size a) (hn : o 0 ≤ 496),
      g.toNat = G + t.val ∧ o 0 = 16 * g.toNat ∧ body t u = trip (p := c.2) arg5 arg7 arg8 g o ho hn)
    {S5 : Finset (Idx (arg5.view.loc c))} (hS5 : arg5.view.set ⊆ S5)
    {S7 : Finset (Idx (arg7.view.loc c))} (hS7 : arg7.view.set ⊆ S7)
    {S8 : Finset (Idx (arg8.view.loc c))} (hS8 : arg8.view.set ⊆ S8)
    {q q5 : PosShare TreeShare} {f t : Buf (Elt F) (arg7.view.loc c)} {W : Finset (Idx (arg7.view.loc c))}
    {fi : Buf (Elt F) (arg5.view.loc c)} (T : S32x512.Idx → Elt F .f32)
    (hids : ∀ y : S512.Idx, (arg5.view.read (Elt F) fi y).toNat < 100000)
    (hmark : ∀ z : S512x128.Idx, 16 * G ≤ (z 0).val → (z 0).val < 16 * G + 128 → arg7.view.emb z ∈ W)
    (hT : ∀ (y : S32x512.Idx) (k : S512.Idx) (z : S512x128.Idx), (k 0).val = (y 1).val → (z 0).val = (y 1).val →
      (z 1).val = 32 * ((arg5.view.read (Elt F) fi k).toNat / 25088) + (y 0).val → arg7.view.read (Elt F) t z = T y) :
    (iprop(wmInv emb ιwm ∗ (arg5.view.loc c ↦[S5]{q5} fi) ∗ (arg7.view.loc c ⇝[S7]{q} f ⇒ (fun i => some (t i)) @ W)
        ∗ ∃ x, ⌜Done c arg8 T (16 * G) x⌝ ∗ arg8.view.loc c ↦[S8]{fullShare} x) : sProp 𝕄)
      ⊢ iprop(((arg5.view.loc c ↦[S5]{q5} fi) ∗ (arg7.view.loc c ⇝[S7]{q} f ⇒ (fun i => some (t i)) @ W)
            ∗ (∃ x, ⌜Done c arg8 T (16 * (G + 8)) x⌝ ∗ arg8.view.loc c ↦[S8]{fullShare} x) -∗ wp frame (wpE defs 𝒱 c bd) Set.univ (kk ⟨⟩) Q)
          -∗ wp frame (wpE defs 𝒱 c bd) Set.univ (Scf.Loop.for L hok ⟨⟩ body >>= kk) Q) := by
  iintro ⟨#Hinv, H5, H7, H8⟩ HK
  iapply (Scf.wp_for_bind frame (wpE defs 𝒱 c bd) Set.univ L.lb L.ub L.st hok ⟨⟩ body
    (fun k _ => iprop(wmInv emb ιwm ∗ (arg5.view.loc c ↦[S5]{q5} fi) ∗ (arg7.view.loc c ⇝[S7]{q} f ⇒ (fun i => some (t i)) @ W)
      ∗ ∃ x, ⌜Done c arg8 T (16 * (G + k)) x⌝ ∗ arg8.view.loc c ↦[S8]{fullShare} x)) ?_) $$ [H5 H7 H8]
  · intro k u
    obtain ⟨g, o, ho, hn, hg, hog, he⟩ := hbody k u
    have hk : k.val < 8 := lt_of_lt_of_eq k.isLt hL
    rw [he, ← Nat.add_assoc, ← hg]
    iintro ⟨#Hinv, H5, H7, %x, %hx, H8⟩
    iapply (wp_trip 𝒱 c bd emb (by omega) ho hn hog hS5 hS7 hS8 T hids (fun z h1 h2 => hmark z (by omega) (by omega)) hT hx) $$ [H5 H7 H8]
    · isplitr; · iexact Hinv
      isplitl [H5]; · iexact H5
      isplitl [H7]; · iexact H7
      iexact H8
    iintro ⟨H5, H7, %x', %hx', H8⟩
    isplitr; · iexact Hinv
    isplitl [H5]; · iexact H5
    isplitl [H7]; · iexact H7
    iexists x'
    isplitr [H8]
    rotate_left
    · iexact H8
    ipureintro
    intro y hy
    exact hx' y (by omega)
  · isplitr; · iexact Hinv
    isplitl [H5]; · iexact H5
    isplitl [H7]; · iexact H7
    iexact H8
  iintro %u ⟨-, H5, H7, %x, %hx, H8⟩
  iapply HK
  isplitl [H5]; · iexact H5
  isplitl [H7]; · iexact H7
  iexists x
  isplitr [H8]
  rotate_left
  · iexact H8
  ipureintro
  exact hL ▸ hx

end Run

end Cert.Select
-- ==== Proof.Common.lean ====
/-
  What the parts of the kernel's proof share: the program as the launch theorem sees it, the ghost state (the handshakes'
  rounds, the pipeline's rounds, write mode, the transfers' counters), the buffers and what is said of them.

  `Good r d v` is what is to hold of the word `v` computed for row `r` of the embedding table and output dimension `d`:
  the proof is for any such predicate, so that one run serves the frames (`Good` always true) and the values.
-/
module

public import proofs.«01_k».proof.Proof.Loops
public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
variable (F) in
abbrev UW : Type := WmRA nD τ sig (Elt F)
variable (F) in
abbrev UU : Type := UH × (UP × (UW F × Counters))

local notation "𝕄" => MT nD τ sig (HIx 1) (Elt F) ℕ (UU F) ℕ

abbrev EH : Emb UH (MT nD τ sig (HIx 1) (Elt F) ℕ (UU F) ℕ) := embL

/-- The pipeline's rounds. -/
def EP : Emb UP (MT nD τ sig (HIx 1) (Elt F) ℕ (UU F) ℕ) :=
  (Emb.inl : Emb UP (UP × (UW F × Counters))).trans embR
instance EP_landsIn : (EP : Emb UP 𝕄).LandsIn (upEmb : UEmb _ 𝕄) := by unfold EP; infer_instance

/-- Write mode's algebra. -/
abbrev wmE : UEmb (UW F) (UU F) :=
  ((UEmb.inl : UEmb (UW F) (UW F × Counters)).trans (UEmb.inr : UEmb (UW F × Counters) (UP × (UW F × Counters)))).trans
    (UEmb.inr : UEmb (UP × (UW F × Counters)) (UU F))

/-! ## The launch memory and the buffers -/

abbrev iLoc (d : Dev nD) : Loc nD τ sig := (SparseCore.T d).loc main_arg0
abbrev tLoc (d : Dev nD) : Loc nD τ sig := (SparseCore.T d).loc main_v3
abbrev oLoc (d : Dev nD) : Loc nD τ sig := (SparseCore.T d).loc main_v4

local notation "tV" => (Memref.whole Cert.KernelIdeal.main_v3_scv : Memref Cert.KernelIdeal.sig Kind.scVector Space.hbm Cert.KernelIdeal.S25088x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v4_scv : Memref Cert.KernelIdeal.sig Kind.scVector Space.hbm Cert.KernelIdeal.S32x16384 EltTy.f32)
local notation "sV" => (Memref.whole Cert.KernelIdeal.cc1_scratch0 : Memref Cert.KernelIdeal.sig Kind.scVector Space.vmem Cert.KernelIdeal.S512 EltTy.i32)
local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)
local notation "xV" => (Memref.whole Cert.KernelIdeal.cc1_scratch3 : Memref Cert.KernelIdeal.sig Kind.scVector Space.vmem Cert.KernelIdeal.S32x512 EltTy.f32)

/-! ## What is said of them -/

/-- What is to hold of a computed word. -/
abbrev Goodness (F : FTy → Type) : Type := ℕ → Fin 32 → Elt F .f32 → Prop

/-- The packed table: row `r` of the vocabulary lies in row `r % 25088`, columns from `32 (r / 25088)` on. -/
def TableOK (Good : Goodness F) (f : S25088x128.Idx → Elt F .f32) : Prop :=
  ∀ (r : ℕ) (d : Fin 32) (z : S25088x128.Idx), r < 100000 → (z 0).val = r % 25088 → (z 1).val = 32 * (r / 25088) + d.val → Good r d (f z)

/-- The transposed result: column `j` is for id `j`. -/
def OutOK (Good : Goodness F) (ids : S16384.Idx → BitVec 32) (S : Finset S32x16384.Idx) (g : S32x16384.Idx → Elt F .f32) : Prop :=
  ∀ y ∈ S, Good (ids (ix1 (n := 16384) (y 1))).toNat (y 0) (g y)

end Cert.Proof.Run
-- ==== Proof.TableBody.lean ====
/-
  The TensorCore kernel's body, run at one grid point: the four blocks of the transposed embedding table, the two
  weights and the two biases are read, and the output block is left with four strips of 32 columns, strip `k` the MLP of
  the `k`-th block.
-/
module

public import proofs.«01_k».proof.Proof.Common
public import proofs.«01_k».proof.Proof.Gen.KernelIdeal.Skeleton
public import Idealize.ShloMosaic.Lib.WritesUnit
public import Idealize.ShloMosaic.Lib.VecWindow
public import Idealize.ShloMosaic.Lib.Tactic

@[expose] public section

noncomputable section

namespace Cert.Proof.Run

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ (UU F) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What four strips of 32 columns, written one after another over a block 128 columns wide, leave at strip `k`. -/
theorem read_strips {κ : Kind} {sp : Space} (v : View sig κ sp S3584x128 .f32) (f : v.ty.Contents (Elt F)) (w : Fin 4 → S3584x32.Idx → Elt F .f32)
    (k : Fin 4) (y : S3584x128.Idx) (x : S3584x32.Idx) (h0 : (y 0).val = (x 0).val) (h1 : (y 1).val = 32 * k.val + (x 1).val) :
    v.read (Elt F) (v.writes (Elt F) f
      [⟨Rect.unit (s := S3584x128) ![0, 96] S3584x32.size inb_S3584x128_S3584x32_0_96, w 3⟩,
       ⟨Rect.unit (s := S3584x128) ![0, 64] S3584x32.size inb_S3584x128_S3584x32_0_64, w 2⟩,
       ⟨Rect.unit (s := S3584x128) ![0, 32] S3584x32.size inb_S3584x128_S3584x32_0_32, w 1⟩,
       ⟨Rect.unit (s := S3584x128) ![0, 0] S3584x32.size inb_S3584x128_S3584x32_0_0, w 0⟩]) y = w k x := by
  have hx1 : (x 1).val < 32 := (x 1).isLt
  have hit : ∀ (off : Fin 2 → ℕ) (o : ℕ) (_ : off 0 = 0) (_ : off 1 = o) (_ : (y 1).val = o + (x 1).val),
      ∀ a : Fin 2, (y a).val = off a + (x a).val := fun off o e0 e1 e a => by
    match a with
    | 0 => rw [e0, Nat.zero_add]; exact h0
    | 1 => rw [e1]; exact e
  match k, h1 with
  | 3, h1 =>
    have h1 : (y 1).val = 96 + (x 1).val := h1
    exact View.read_writes_cons_unit_of_mem v f (off := ![0, 96]) (off' := ![0, 96]) (size := S3584x32.size) inb_S3584x128_S3584x32_0_96 (w 3) _ y x rfl (hit _ 96 rfl rfl h1)
  | 2, h1 =>
    have h1 : (y 1).val = 64 + (x 1).val := h1
    exact (View.read_writes_cons_unit_of_not_mem v f (off := ![0, 96]) (off' := ![0, 96]) (size := S3584x32.size) inb_S3584x128_S3584x32_0_96 (w 3) _ y rfl (1 : Fin 2) (Or.inl (show (y 1).val < 96 by omega))).trans <|
      View.read_writes_cons_unit_of_mem v f (off := ![0, 64]) (off' := ![0, 64]) (size := S3584x32.size) inb_S3584x128_S3584x32_0_64 (w 2) _ y x rfl (hit _ 64 rfl rfl h1)
  | 1, h1 =>
    have h1 : (y 1).val = 32 + (x 1).val := h1
    exact (View.read_writes_cons_unit_of_not_mem v f (off := ![0, 96]) (off' := ![0, 96]) (size := S3584x32.size) inb_S3584x128_S3584x32_0_96 (w 3) _ y rfl (1 : Fin 2) (Or.inl (show (y 1).val < 96 by omega))).trans <|
      (View.read_writes_cons_unit_of_not_mem v f (off := ![0, 64]) (off' := ![0, 64]) (size := S3584x32.size) inb_S3584x128_S3584x32_0_64 (w 2) _ y rfl (1 : Fin 2) (Or.inl (show (y 1).val < 64 by omega))).trans <|
      View.read_writes_cons_unit_of_mem v f (off := ![0, 32]) (off' := ![0, 32]) (size := S3584x32.size) inb_S3584x128_S3584x32_0_32 (w 1) _ y x rfl (hit _ 32 rfl rfl h1)
  | 0, h1 =>
    have h1 : (y 1).val = 0 + (x 1).val := h1
    exact (View.read_writes_cons_unit_of_not_mem v f (off := ![0, 96]) (off' := ![0, 96]) (size := S3584x32.size) inb_S3584x128_S3584x32_0_96 (w 3) _ y rfl (1 : Fin 2) (Or.inl (show (y 1).val < 96 by omega))).trans <|
      (View.read_writes_cons_unit_of_not_mem v f (off := ![0, 64]) (off' := ![0, 64]) (size := S3584x32.size) inb_S3584x128_S3584x32_0_64 (w 2) _ y rfl (1 : Fin 2) (Or.inl (show (y 1).val < 64 by omega))).trans <|
      (View.read_writes_cons_unit_of_not_mem v f (off := ![0, 32]) (off' := ![0, 32]) (size := S3584x32.size) inb_S3584x128_S3584x32_0_32 (w 1) _ y rfl (1 : Fin 2) (Or.inl (show (y 1).val < 32 by omega))).trans <|
      View.read_writes_cons_unit_of_mem v f (off := ![0, 0]) (off' := ![0, 0]) (size := S3584x32.size) inb_S3584x128_S3584x32_0_0 (w 0) _ y x rfl (hit _ 0 rfl rfl h1)

/-- The run of the body, and what it leaves in the output block. -/
def tableRun (c : Dev nD) (i : grid0.Coords)
    (M1 : Memref sig .tc .vmem S64x3584 .f32) (h1 : M1.IsWhole)
    (M2 : Memref sig .tc .vmem S64x3584 .f32) (h2 : M2.IsWhole)
    (M3 : Memref sig .tc .vmem S64x3584 .f32) (h3 : M3.IsWhole)
    (M4 : Memref sig .tc .vmem S64x3584 .f32) (h4 : M4.IsWhole)
    (M5 : Memref sig .tc .vmem S64x128 .f32) (h5 : M5.IsWhole)
    (M6 : Memref sig .tc .vmem S1x128 .f32) (h6 : M6.IsWhole)
    (M7 : Memref sig .tc .vmem S128x32 .f32) (h7 : M7.IsWhole)
    (M8 : Memref sig .tc .vmem S1x32 .f32) (h8 : M8.IsWhole)
    (M9 : Memref sig .tc .vmem S3584x128 .f32) (h9 : M9.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) :
    { W : Bf (F := F) c M9 // ∀ (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9
          ∗ (iprop(pt c M1 f1 ∗ pt c M2 f2 ∗ pt c M3 f3 ∗ pt c M4 f4 ∗ pt c M5 f5 ∗ pt c M6 f6 ∗ pt c M7 f7 ∗ pt c M8 f8 ∗ pt c M9 W) -∗ Q ⟨⟩))
          ⊢ wp frame (wpE (defs₀ (F := F)) 𝒱₀ c none) E (cc0__precompute_body i M1 h1 M2 h2 M3 h3 M4 h4 M5 h5 M6 h6 M7 h7 M8 h8 M9 h9) Q } := by
  refine ⟨?_, fun E Q => ?run⟩
  case run =>
    rw [cc0__precompute_body_eq_skeleton]; unfold cc0__precompute_body_skel
    rw [k0_part1_eq_skeleton, k0_part2_eq_skeleton]; unfold k0_part1_skel k0_part2_skel
    iintro ⟨H1, H2, H3, H4, H5, H6, H7, H8, H9, Hk⟩
    sl_exec!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- Strip `k` of what the body leaves is the MLP of block `k`. -/
theorem tableRun_strip (c : Dev nD) (i : grid0.Coords)
    (M1 : Memref sig .tc .vmem S64x3584 .f32) (h1 : M1.IsWhole)
    (M2 : Memref sig .tc .vmem S64x3584 .f32) (h2 : M2.IsWhole)
    (M3 : Memref sig .tc .vmem S64x3584 .f32) (h3 : M3.IsWhole)
    (M4 : Memref sig .tc .vmem S64x3584 .f32) (h4 : M4.IsWhole)
    (M5 : Memref sig .tc .vmem S64x128 .f32) (h5 : M5.IsWhole)
    (M6 : Memref sig .tc .vmem S1x128 .f32) (h6 : M6.IsWhole)
    (M7 : Memref sig .tc .vmem S128x32 .f32) (h7 : M7.IsWhole)
    (M8 : Memref sig .tc .vmem S1x32 .f32) (h8 : M8.IsWhole)
    (M9 : Memref sig .tc .vmem S3584x128 .f32) (h9 : M9.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (X : Fin 4 → Vec F S64x3584 .f32) (hX0 : M1.view.read (Elt F) f1 = X 0) (hX1 : M2.view.read (Elt F) f2 = X 1)
    (hX2 : M3.view.read (Elt F) f3 = X 2) (hX3 : M4.view.read (Elt F) f4 = X 3)
    (k : Fin 4) (y : S3584x128.Idx) (x : S3584x32.Idx) (hy0 : (y 0).val = (x 0).val) (hy1 : (y 1).val = 32 * k.val + (x 1).val) :
    M9.view.read (Elt F) (tableRun c i M1 h1 M2 h2 M3 h3 M4 h4 M5 h5 M6 h6 M7 h7 M8 h8 M9 h9 f1 f2 f3 f4 f5 f6 f7 f8 f9).1 y
      = k0_pay2 (X k) (M5.view.read (Elt F) f5) (M6.view.read (Elt F) f6) (M7.view.read (Elt F) f7) (M8.view.read (Elt F) f8) x := by
  refine (read_strips M9.view M9.view.junk (fun k => k0_pay2 (X k) (M5.view.read (Elt F) f5) (M6.view.read (Elt F) f6) (M7.view.read (Elt F) f7) (M8.view.read (Elt F) f8)) k y x hy0 hy1).symm.trans ?_ |>.symm
  rw [← hX0, ← hX1, ← hX2, ← hX3]
  unfold tableRun
  dsimp only
  unfold tableRun.sl.H9_4
  rw [View.readAt_full M1.view f1 inb_S64x3584_S64x3584_0_0,
    View.readAt_full M2.view f2 inb_S64x3584_S64x3584_0_0,
    View.readAt_full M3.view f3 inb_S64x3584_S64x3584_0_0,
    View.readAt_full M4.view f4 inb_S64x3584_S64x3584_0_0,
    View.readAt_full M5.view f5 inb_S64x128_S64x128_0_0,
    View.readAt_full M6.view f6 inb_S1x128_S1x128_0_0,
    View.readAt_full M7.view f7 inb_S128x32_S128x32_0_0,
    View.readAt_full M8.view f8 inb_S1x32_S1x32_0_0]
  rfl

/-- A whole buffer owned at `X`: held at contents that read as `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body, over what the staging buffers hold. -/
theorem wp_table (c : Dev nD) (i : grid0.Coords)
    (M1 : Memref sig .tc .vmem S64x3584 .f32) (h1 : M1.IsWhole)
    (M2 : Memref sig .tc .vmem S64x3584 .f32) (h2 : M2.IsWhole)
    (M3 : Memref sig .tc .vmem S64x3584 .f32) (h3 : M3.IsWhole)
    (M4 : Memref sig .tc .vmem S64x3584 .f32) (h4 : M4.IsWhole)
    (M5 : Memref sig .tc .vmem S64x128 .f32) (h5 : M5.IsWhole)
    (M6 : Memref sig .tc .vmem S1x128 .f32) (h6 : M6.IsWhole)
    (M7 : Memref sig .tc .vmem S128x32 .f32) (h7 : M7.IsWhole)
    (M8 : Memref sig .tc .vmem S1x32 .f32) (h8 : M8.IsWhole)
    (M9 : Memref sig .tc .vmem S3584x128 .f32) (h9 : M9.IsWhole)
    (X : Fin 4 → Vec F S64x3584 .f32) (X5 : Vec F S64x128 .f32) (X6 : Vec F S1x128 .f32) (X7 : Vec F S128x32 .f32) (X8 : Vec F S1x32 .f32)
    (X9 : Vec F S3584x128 .f32) (E : Set ℕ) (Q : PUnit → sProp 𝕄) :
    iprop(owns c M1 fullShare (X 0) ∗ owns c M2 fullShare (X 1) ∗ owns c M3 fullShare (X 2) ∗ owns c M4 fullShare (X 3) ∗ owns c M5 fullShare X5 ∗ owns c M6 fullShare X6 ∗ owns c M7 fullShare X7 ∗ owns c M8 fullShare X8 ∗ owns c M9 fullShare X9
      ∗ (iprop(owns c M1 fullShare (X 0) ∗ owns c M2 fullShare (X 1) ∗ owns c M3 fullShare (X 2) ∗ owns c M4 fullShare (X 3) ∗ owns c M5 fullShare X5 ∗ owns c M6 fullShare X6 ∗ owns c M7 fullShare X7 ∗ owns c M8 fullShare X8
          ∗ ∃ W : Vec F S3584x128 .f32, ⌜∀ (k : Fin 4) (y : S3584x128.Idx) (x : S3584x32.Idx), (y 0).val = (x 0).val →
              (y 1).val = 32 * k.val + (x 1).val → W y = k0_pay2 (X k) X5 X6 X7 X8 x⌝ ∗ owns c M9 fullShare W) -∗ Q ⟨⟩))
      ⊢ wp frame (wpE (defs₀ (F := F)) 𝒱₀ c none) E (cc0__precompute_body i M1 h1 M2 h2 M3 h3 M4 h4 M5 h5 M6 h6 M7 h7 M8 h8 M9 h9) Q := by
  rw [owns_pt c M1 h1, owns_pt c M2 h2, owns_pt c M3 h3, owns_pt c M4 h4, owns_pt c M5 h5, owns_pt c M6 h6, owns_pt c M7 h7, owns_pt c M8 h8, owns_pt c M9 h9]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  iapply ((tableRun c i M1 h1 M2 h2 M3 h3 M4 h4 M5 h5 M6 h6 M7 h7 M8 h8 M9 h9 f1 f2 f3 f4 f5 f6 f7 f8 f9).2 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  iexists (M9.view.read (Elt F) (tableRun c i M1 h1 M2 h2 M3 h3 M4 h4 M5 h5 M6 h6 M7 h7 M8 h8 M9 h9 f1 f2 f3 f4 f5 f6 f7 f8 f9).1)
  isplitr
  · ipureintro
    intro k y x hy0 hy1
    rw [tableRun_strip c i M1 h1 M2 h2 M3 h3 M4 h4 M5 h5 M6 h6 M7 h7 M8 h8 M9 h9 f1 f2 f3 f4 f5 f6 f7 f8 f9 X e1 e2 e3 e4 k y x hy0 hy1, e5, e6, e7, e8]
  rw [owns_pt c M9 h9]
  iexists _
  isplitr; · ipureintro; rfl
  iexact H9

end Cert.Proof.Run
-- ==== Proof.Table.lean ====
/-
  The TensorCore call: what each grid point finds in the blocks it reads, and the call's proof data. Of the output block
  only the rows of the vocabulary are spoken of: the last block of the fourth window overhangs the table's end.
-/
module

public import proofs.«01_k».proof.Proof.TableBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel

@[expose] public section

noncomputable section

namespace Cert.Proof.Run

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F] [∀ e, Nonempty (Elt F e)]

local notation "𝕄" => MT nD τ sig (HIx 1) (Elt F) ℕ (UU F) ℕ

variable (V : (c : Dev nD) → (b : Ref sig .tc) → Buf (Elt F) ((c : Thread nD τ).loc b))

/-- The contents of a window's block at a point, as the fetch moves them. -/
abbrev blkOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of the call, from the contents `V`: after the body an input's buffer is as fetched; the output's is
    held to a predicate, so that what is named here of it does not matter. -/
def dat (c : Dev nD) : Dat τ (Elt F) (HIx 1) ℕ (UU F) ℕ cfg0 c where
  A w := V c (Pipeline.arrRef spec0 w)
  after w t := (cfg0.win w).fill (cfg0.grid.coords t) (fun _ => Classical.arbitrary _) (blkOf V c w t)
  Φ _ := BI.emp
  q w := Pipeline.shareOf spec0 w
  owed _ := (K (F := F)).Otc c 0
  recorded _ := {p | (K (F := F)).lev ((c : Thread nD τ), p.1) p.2 ≤ 0}

/-- The window held to a predicate: the output's. -/
def marked : Fin cfg0.W → Bool := fun | 8 => true | 0 => false | 1 => false | 2 => false | 3 => false | 4 => false | 5 => false | 6 => false | 7 => false

/-- What the body leaves in the output block at point `t`: at each row of the vocabulary, good words. -/
def Strips (Good : Goodness F) (t : ℕ) (X : Vec F S3584x128 .f32) : Prop :=
  ∀ (k : Fin 4) (y : S3584x128.Idx) (x : S3584x32.Idx), (y 0).val = (x 0).val → (y 1).val = 32 * k.val + (x 1).val →
    25088 * k.val + 3584 * t + (x 0).val < 100000 → Good (25088 * k.val + 3584 * t + (x 0).val) (x 1) (X y)

def Rl (Good : Goodness F) : (w : Fin cfg0.W) → Fin cfg0.N → ((cfg0.win w).block.Idx → Elt F (cfg0.win w).elt) → Prop
  | 8, t, X => Strips Good t.val X
  | 0, _, _ => True | 1, _, _ => True | 2, _, _ => True | 3, _, _ => True | 4, _, _ => True | 5, _, _ => True | 6, _, _ => True | 7, _, _ => True

/-- What the payload is to do: on a block whose column `x 0` is column `v` of the transposed table, a good word for `v`. -/
def PayOK (Good : Goodness F) (c : Dev nD) : Prop :=
  ∀ (X : Vec F S64x3584 .f32) (x : S3584x32.Idx) (v : ℕ) (hv : v < 100000),
    (∀ j : Fin 64, X (ix2 (n0 := 64) (n1 := 3584) j (x 0)) = V c main_v0 (ix2 (n0 := 64) (n1 := 100000) j ⟨v, hv⟩)) →
      Good v (x 1) (k0_pay2 X (V c main_arg2) (V c main_v1) (V c main_arg4) (V c main_v2) x)

/-! ## What the body finds -/

theorem idle_false (w : Fin cfg0.W) (i : cfg0.grid.Coords) : cfg0.idle w i = false := by
  fin_cases w <;> rfl

theorem cut_after (c : Dev nD) (w : Fin cfg0.W) (t : Fin cfg0.N) :
    (cfg0.win w).cut (cfg0.grid.coords t) ((dat V c).after w t) = (dat V c).blockOf w t :=
  (cfg0.win w).cut_fill _ _ _

theorem tr0 : ∀ i : grid0.Coords, cc0_transform_0 i 0 = 0 ∧ cc0_transform_0 i 1 = 0 + (i 0).val := by decide +kernel
theorem tr1 : ∀ i : grid0.Coords, cc0_transform_1 i 0 = 0 ∧ cc0_transform_1 i 1 = 7 + (i 0).val := by decide +kernel
theorem tr2 : ∀ i : grid0.Coords, cc0_transform_2 i 0 = 0 ∧ cc0_transform_2 i 1 = 14 + (i 0).val := by decide +kernel
theorem tr3 : ∀ i : grid0.Coords, cc0_transform_3 i 0 = 0 ∧ cc0_transform_3 i 1 = 21 + (i 0).val := by decide +kernel
theorem tr8 : ∀ i : grid0.Coords, cc0_transform_8 i 0 = (i 0).val ∧ cc0_transform_8 i 1 = 0 := by decide +kernel
theorem coords_val : ∀ t : Fin grid0.N, (grid0.coords t 0).val = t.val := by decide +kernel

/-- A coordinate inside the array is inside what the transfer moves of its block. -/
theorem lt_extent {ix k d y : ℕ} (hy : y < k) (h : ix * k + y < d) : y < (Pipeline.Clip.of ix k d).extent k := by
  unfold Pipeline.Clip.of
  split
  · exact hy
  · show y < d - ix * k; omega

/-- A filled block at a moved coordinate. -/
theorem fill_moved (w : Pipeline.Window sig grid0) (i : grid0.Coords) {α : Type} (d : w.block.Idx → α) (g : (w.xblock i).Idx → α) (y : w.block.Idx)
    (h : ∀ a, (y a).val < (w.xblock i).size a) : w.fill i d g y = g fun a => ⟨(y a).val, h a⟩ := by
  unfold Pipeline.Window.fill
  rw [dif_pos ((w.moved_iff i y).mpr h)]

theorem found_0 (c : Dev nD) (t : Fin cfg0.N) (d : Vec F S64x3584 .f32) (y : S64x3584.Idx) (v : ℕ) (hv : v < 100000) (e : v = 0 + 3584 * t.val + (y 1).val) :
    (dat V c).before 0 t d y = V c main_v0 (ix2 (n0 := 64) (n1 := 100000) (y 0) ⟨v, hv⟩) := by
  have h0 := (tr0 (grid0.coords t)).1
  have y0 : (y 0).val < 64 := (y 0).isLt
  have y1 : (y 1).val < 3584 := (y 1).isLt
  have h1 : cc0_transform_0 (grid0.coords t) 1 = 0 + t.val := (tr0 _).2.trans (congrArg (0 + ·) (coords_val t))
  rw [(dat V c).before_fetched 0 t (fetch0_0 t) d]
  refine (fill_moved (cfg0.win 0) (cfg0.grid.coords t) d _ y fun a => ?_).trans ?_
  · match a with
    | 0 => exact lt_extent (ix := cc0_transform_0 (grid0.coords t) 0) (k := 64) (d := 64) y0 (by rw [h0]; omega)
    | 1 => exact lt_extent (ix := cc0_transform_0 (grid0.coords t) 1) (k := 3584) (d := 100000) y1 (by rw [h1]; omega)
  · refine congrArg (V c main_v0) (funext fun a => Fin.ext ?_)
    match a with
    | 0 => show cc0_transform_0 (grid0.coords t) 0 * 64 + 1 * (y 0).val = (y 0).val; rw [h0]; omega
    | 1 => show cc0_transform_0 (grid0.coords t) 1 * 3584 + 1 * (y 1).val = v; rw [h1]; omega

theorem found_1 (c : Dev nD) (t : Fin cfg0.N) (d : Vec F S64x3584 .f32) (y : S64x3584.Idx) (v : ℕ) (hv : v < 100000) (e : v = 25088 + 3584 * t.val + (y 1).val) :
    (dat V c).before 1 t d y = V c main_v0 (ix2 (n0 := 64) (n1 := 100000) (y 0) ⟨v, hv⟩) := by
  have h0 := (tr1 (grid0.coords t)).1
  have y0 : (y 0).val < 64 := (y 0).isLt
  have y1 : (y 1).val < 3584 := (y 1).isLt
  have h1 : cc0_transform_1 (grid0.coords t) 1 = 7 + t.val := (tr1 _).2.trans (congrArg (7 + ·) (coords_val t))
  rw [(dat V c).before_fetched 1 t (fetch0_1 t) d]
  refine (fill_moved (cfg0.win 1) (cfg0.grid.coords t) d _ y fun a => ?_).trans ?_
  · match a with
    | 0 => exact lt_extent (ix := cc0_transform_1 (grid0.coords t) 0) (k := 64) (d := 64) y0 (by rw [h0]; omega)
    | 1 => exact lt_extent (ix := cc0_transform_1 (grid0.coords t) 1) (k := 3584) (d := 100000) y1 (by rw [h1]; omega)
  · refine congrArg (V c main_v0) (funext fun a => Fin.ext ?_)
    match a with
    | 0 => show cc0_transform_1 (grid0.coords t) 0 * 64 + 1 * (y 0).val = (y 0).val; rw [h0]; omega
    | 1 => show cc0_transform_1 (grid0.coords t) 1 * 3584 + 1 * (y 1).val = v; rw [h1]; omega

theorem found_2 (c : Dev nD) (t : Fin cfg0.N) (d : Vec F S64x3584 .f32) (y : S64x3584.Idx) (v : ℕ) (hv : v < 100000) (e : v = 50176 + 3584 * t.val + (y 1).val) :
    (dat V c).before 2 t d y = V c main_v0 (ix2 (n0 := 64) (n1 := 100000) (y 0) ⟨v, hv⟩) := by
  have h0 := (tr2 (grid0.coords t)).1
  have y0 : (y 0).val < 64 := (y 0).isLt
  have y1 : (y 1).val < 3584 := (y 1).isLt
  have h1 : cc0_transform_2 (grid0.coords t) 1 = 14 + t.val := (tr2 _).2.trans (congrArg (14 + ·) (coords_val t))
  rw [(dat V c).before_fetched 2 t (fetch0_2 t) d]
  refine (fill_moved (cfg0.win 2) (cfg0.grid.coords t) d _ y fun a => ?_).trans ?_
  · match a with
    | 0 => exact lt_extent (ix := cc0_transform_2 (grid0.coords t) 0) (k := 64) (d := 64) y0 (by rw [h0]; omega)
    | 1 => exact lt_extent (ix := cc0_transform_2 (grid0.coords t) 1) (k := 3584) (d := 100000) y1 (by rw [h1]; omega)
  · refine congrArg (V c main_v0) (funext fun a => Fin.ext ?_)
    match a with
    | 0 => show cc0_transform_2 (grid0.coords t) 0 * 64 + 1 * (y 0).val = (y 0).val; rw [h0]; omega
    | 1 => show cc0_transform_2 (grid0.coords t) 1 * 3584 + 1 * (y 1).val = v; rw [h1]; omega

theorem found_3 (c : Dev nD) (t : Fin cfg0.N) (d : Vec F S64x3584 .f32) (y : S64x3584.Idx) (v : ℕ) (hv : v < 100000) (e : v = 75264 + 3584 * t.val + (y 1).val) :
    (dat V c).before 3 t d y = V c main_v0 (ix2 (n0 := 64) (n1 := 100000) (y 0) ⟨v, hv⟩) := by
  have h0 := (tr3 (grid0.coords t)).1
  have y0 : (y 0).val < 64 := (y 0).isLt
  have y1 : (y 1).val < 3584 := (y 1).isLt
  have h1 : cc0_transform_3 (grid0.coords t) 1 = 21 + t.val := (tr3 _).2.trans (congrArg (21 + ·) (coords_val t))
  rw [(dat V c).before_fetched 3 t (fetch0_3 t) d]
  refine (fill_moved (cfg0.win 3) (cfg0.grid.coords t) d _ y fun a => ?_).trans ?_
  · match a with
    | 0 => exact lt_extent (ix := cc0_transform_3 (grid0.coords t) 0) (k := 64) (d := 64) y0 (by rw [h0]; omega)
    | 1 => exact lt_extent (ix := cc0_transform_3 (grid0.coords t) 1) (k := 3584) (d := 100000) y1 (by rw [h1]; omega)
  · refine congrArg (V c main_v0) (funext fun a => Fin.ext ?_)
    match a with
    | 0 => show cc0_transform_3 (grid0.coords t) 0 * 64 + 1 * (y 0).val = (y 0).val; rw [h0]; omega
    | 1 => show cc0_transform_3 (grid0.coords t) 1 * 3584 + 1 * (y 1).val = v; rw [h1]; omega

theorem found_4 (c : Dev nD) (t : Fin cfg0.N) (d : Vec F S64x128 .f32) : (dat V c).before 4 t d = V c main_arg2 := by
  rw [(dat V c).before_in_eq_fetched 4 rfl (idle_false 4) (fun _ _ _ => rfl) (fun t => cut_after V c 4 t) t d]
  funext y
  refine congrArg (V c main_arg2) (funext fun a => Fin.ext ?_)
  match a with
  | 0 => show 0 * _ + 1 * (y 0).val = (y 0).val; omega
  | 1 => show 0 * _ + 1 * (y 1).val = (y 1).val; omega

theorem found_5 (c : Dev nD) (t : Fin cfg0.N) (d : Vec F S1x128 .f32) : (dat V c).before 5 t d = V c main_v1 := by
  rw [(dat V c).before_in_eq_fetched 5 rfl (idle_false 5) (fun _ _ _ => rfl) (fun t => cut_after V c 5 t) t d]
  funext y
  refine congrArg (V c main_v1) (funext fun a => Fin.ext ?_)
  match a with
  | 0 => show 0 * _ + 1 * (y 0).val = (y 0).val; omega
  | 1 => show 0 * _ + 1 * (y 1).val = (y 1).val; omega

theorem found_6 (c : Dev nD) (t : Fin cfg0.N) (d : Vec F S128x32 .f32) : (dat V c).before 6 t d = V c main_arg4 := by
  rw [(dat V c).before_in_eq_fetched 6 rfl (idle_false 6) (fun _ _ _ => rfl) (fun t => cut_after V c 6 t) t d]
  funext y
  refine congrArg (V c main_arg4) (funext fun a => Fin.ext ?_)
  match a with
  | 0 => show 0 * _ + 1 * (y 0).val = (y 0).val; omega
  | 1 => show 0 * _ + 1 * (y 1).val = (y 1).val; omega

theorem found_7 (c : Dev nD) (t : Fin cfg0.N) (d : Vec F S1x32 .f32) : (dat V c).before 7 t d = V c main_v2 := by
  rw [(dat V c).before_in_eq_fetched 7 rfl (idle_false 7) (fun _ _ _ => rfl) (fun t => cut_after V c 7 t) t d]
  funext y
  refine congrArg (V c main_v2) (funext fun a => Fin.ext ?_)
  match a with
  | 0 => show 0 * _ + 1 * (y 0).val = (y 0).val; omega
  | 1 => show 0 * _ + 1 * (y 1).val = (y 1).val; omega

theorem kept_0 (c : Dev nD) (t : Fin cfg0.N) (d : Vec F S64x3584 .f32) :
    (cfg0.win 0).fill (cfg0.grid.coords t) d ((cfg0.win 0).cut (cfg0.grid.coords t) ((dat V c).after 0 t)) = (dat V c).before 0 t d := by
  rw [cut_after, (dat V c).before_fetched 0 t (fetch0_0 t) d]; rfl

theorem kept_1 (c : Dev nD) (t : Fin cfg0.N) (d : Vec F S64x3584 .f32) :
    (cfg0.win 1).fill (cfg0.grid.coords t) d ((cfg0.win 1).cut (cfg0.grid.coords t) ((dat V c).after 1 t)) = (dat V c).before 1 t d := by
  rw [cut_after, (dat V c).before_fetched 1 t (fetch0_1 t) d]; rfl

theorem kept_2 (c : Dev nD) (t : Fin cfg0.N) (d : Vec F S64x3584 .f32) :
    (cfg0.win 2).fill (cfg0.grid.coords t) d ((cfg0.win 2).cut (cfg0.grid.coords t) ((dat V c).after 2 t)) = (dat V c).before 2 t d := by
  rw [cut_after, (dat V c).before_fetched 2 t (fetch0_2 t) d]; rfl

theorem kept_3 (c : Dev nD) (t : Fin cfg0.N) (d : Vec F S64x3584 .f32) :
    (cfg0.win 3).fill (cfg0.grid.coords t) d ((cfg0.win 3).cut (cfg0.grid.coords t) ((dat V c).after 3 t)) = (dat V c).before 3 t d := by
  rw [cut_after, (dat V c).before_fetched 3 t (fetch0_3 t) d]; rfl

theorem after_4 (c : Dev nD) (t : Fin cfg0.N) : (dat V c).after 4 t = V c main_arg2 :=
  ((dat V c).before_in_eq_fetched 4 rfl (idle_false 4) (fun _ _ _ => rfl) (fun t => cut_after V c 4 t) t fun _ => Classical.arbitrary _).symm.trans (found_4 V c t fun _ => Classical.arbitrary _)

theorem after_5 (c : Dev nD) (t : Fin cfg0.N) : (dat V c).after 5 t = V c main_v1 :=
  ((dat V c).before_in_eq_fetched 5 rfl (idle_false 5) (fun _ _ _ => rfl) (fun t => cut_after V c 5 t) t fun _ => Classical.arbitrary _).symm.trans (found_5 V c t fun _ => Classical.arbitrary _)

theorem after_6 (c : Dev nD) (t : Fin cfg0.N) : (dat V c).after 6 t = V c main_arg4 :=
  ((dat V c).before_in_eq_fetched 6 rfl (idle_false 6) (fun _ _ _ => rfl) (fun t => cut_after V c 6 t) t fun _ => Classical.arbitrary _).symm.trans (found_6 V c t fun _ => Classical.arbitrary _)

theorem after_7 (c : Dev nD) (t : Fin cfg0.N) : (dat V c).after 7 t = V c main_v2 :=
  ((dat V c).before_in_eq_fetched 7 rfl (idle_false 7) (fun _ _ _ => rfl) (fun t => cut_after V c 7 t) t fun _ => Classical.arbitrary _).symm.trans (found_7 V c t fun _ => Classical.arbitrary _)

/-- The words of strip `k` are good. -/
theorem strips_of (Good : Goodness F) (c : Dev nD) (hP : PayOK V Good c) (t : Fin cfg0.N) (X : Fin 4 → Vec F S64x3584 .f32)
    (hX : ∀ (k : Fin 4) (y : S64x3584.Idx) (v : ℕ) (hv : v < 100000), v = 25088 * k.val + 3584 * t.val + (y 1).val →
      X k y = V c main_v0 (ix2 (n0 := 64) (n1 := 100000) (y 0) ⟨v, hv⟩)) (W : Vec F S3584x128 .f32)
    (hW : ∀ (k : Fin 4) (y : S3584x128.Idx) (x : S3584x32.Idx), (y 0).val = (x 0).val → (y 1).val = 32 * k.val + (x 1).val →
      W y = k0_pay2 (X k) (V c main_arg2) (V c main_v1) (V c main_arg4) (V c main_v2) x) : Strips Good t.val W := by
  intro k y x h0 h1 hv
  rw [hW k y x h0 h1]
  exact hP (X k) x _ hv fun j => hX k (ix2 (n0 := 64) (n1 := 3584) j (x 0)) _ hv rfl

/-- The library's body obligation. -/
theorem body_obligation (Good : Goodness F) (c : Dev nD) (hP : PayOK V Good c) :
    Pipeline.BodyObligationRel (dat V c) (defs₀ (F := F)) 𝒱₀ (default : HIx 1) Set.univ marked (Rl Good) := fun t => by
  rw [bigSep_W0, bigSep_W0]
  show iprop(BI.emp ∗ (dat V c).owesAt (default : HIx 1) t.castSucc ∗ (∃ d, owns (c : Thread nD τ) (st0_0 t) fullShare ((dat V c).before 0 t d)) ∗ (∃ d, owns (c : Thread nD τ) (st0_1 t) fullShare ((dat V c).before 1 t d)) ∗ (∃ d, owns (c : Thread nD τ) (st0_2 t) fullShare ((dat V c).before 2 t d)) ∗ (∃ d, owns (c : Thread nD τ) (st0_3 t) fullShare ((dat V c).before 3 t d)) ∗ (∃ d, owns (c : Thread nD τ) (st0_4 t) fullShare ((dat V c).before 4 t d)) ∗ (∃ d, owns (c : Thread nD τ) (st0_5 t) fullShare ((dat V c).before 5 t d)) ∗ (∃ d, owns (c : Thread nD τ) (st0_6 t) fullShare ((dat V c).before 6 t d)) ∗ (∃ d, owns (c : Thread nD τ) (st0_7 t) fullShare ((dat V c).before 7 t d))
      ∗ (∃ Y, ⌜((dat V c).toRRel marked (Rl Good)).Finds 8 t Y⌝ ∗ owns (c : Thread nD τ) (st0_8 t) fullShare Y))
    ⊢ wp frame (wpE (defs₀ (F := F)) 𝒱₀ c none) Set.univ (cc0__precompute_body (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))) fun _ =>
      iprop(BI.emp ∗ (dat V c).owesAt (default : HIx 1) t.castSucc ∗ (∃ d, owns (c : Thread nD τ) (st0_0 t) fullShare ((cfg0.win 0).fill (cfg0.grid.coords t) d ((cfg0.win 0).cut (cfg0.grid.coords t) ((dat V c).after 0 t)))) ∗ (∃ d, owns (c : Thread nD τ) (st0_1 t) fullShare ((cfg0.win 1).fill (cfg0.grid.coords t) d ((cfg0.win 1).cut (cfg0.grid.coords t) ((dat V c).after 1 t)))) ∗ (∃ d, owns (c : Thread nD τ) (st0_2 t) fullShare ((cfg0.win 2).fill (cfg0.grid.coords t) d ((cfg0.win 2).cut (cfg0.grid.coords t) ((dat V c).after 2 t)))) ∗ (∃ d, owns (c : Thread nD τ) (st0_3 t) fullShare ((cfg0.win 3).fill (cfg0.grid.coords t) d ((cfg0.win 3).cut (cfg0.grid.coords t) ((dat V c).after 3 t)))) ∗ owns (c : Thread nD τ) (st0_4 t) fullShare ((dat V c).after 4 t) ∗ owns (c : Thread nD τ) (st0_5 t) fullShare ((dat V c).after 5 t) ∗ owns (c : Thread nD τ) (st0_6 t) fullShare ((dat V c).after 6 t) ∗ owns (c : Thread nD τ) (st0_7 t) fullShare ((dat V c).after 7 t)
        ∗ (∃ X, ⌜Strips Good t.val X⌝ ∗ owns (c : Thread nD τ) (st0_8 t) fullShare X))
  iintro ⟨-, Howes, ⟨%d0, H0⟩, ⟨%d1, H1⟩, ⟨%d2, H2⟩, ⟨%d3, H3⟩, ⟨%d4, H4⟩, ⟨%d5, H5⟩, ⟨%d6, H6⟩, ⟨%d7, H7⟩, ⟨%Y, -, H8⟩⟩
  rw [found_4, found_5, found_6, found_7]
  iapply (wp_table c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (fun | 0 => (dat V c).before 0 t d0 | 1 => (dat V c).before 1 t d1 | 2 => (dat V c).before 2 t d2 | 3 => (dat V c).before 3 t d3)
    (V c main_arg2) (V c main_v1) (V c main_arg4) (V c main_v2) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, %W, %hW, H8⟩
  isplitr; · iempintro
  isplitl [Howes]; · iexact Howes
  isplitl [H0]; · iexists d0; rw [kept_0]; iexact H0
  isplitl [H1]; · iexists d1; rw [kept_1]; iexact H1
  isplitl [H2]; · iexists d2; rw [kept_2]; iexact H2
  isplitl [H3]; · iexists d3; rw [kept_3]; iexact H3
  isplitl [H4]; · rw [after_4]; iexact H4
  isplitl [H5]; · rw [after_5]; iexact H5
  isplitl [H6]; · rw [after_6]; iexact H6
  isplitl [H7]; · rw [after_7]; iexact H7
  iexists W
  isplitr
  · ipureintro
    refine strips_of V Good c hP t _ (fun k y v hv e => ?_) W hW
    match k, e with
    | 0, e => exact found_0 V c t d0 y v hv e
    | 1, e => exact found_1 V c t d1 y v hv e
    | 2, e => exact found_2 V c t d2 y v hv e
    | 3, e => exact found_3 V c t d3 y v hv e
  iexact H8

/-- Where element `y` of the output block of point `t` lies in the table. -/
theorem emb_8 (t : Fin cfg0.N) (y : S3584x128.Idx) :
    ((((cfg0.win 8).blk t).view.emb y : S25088x128.Idx) 0).val = 3584 * t.val + (y 0).val
      ∧ ((((cfg0.win 8).blk t).view.emb y : S25088x128.Idx) 1).val = (y 1).val := by
  have e0 : cc0_transform_8 (grid0.coords t) 0 = t.val := (tr8 _).1.trans (coords_val t)
  have e1 := (tr8 (grid0.coords t)).2
  constructor
  · show cc0_transform_8 (grid0.coords t) 0 * 3584 + 1 * (y 0).val = _; rw [e0]; omega
  · show cc0_transform_8 (grid0.coords t) 1 * 128 + 1 * (y 1).val = _; rw [e1]; omega

/-- Every array the call may leave is a good table. -/
theorem table_ok (Good : Goodness F) (c : Dev nD) (G : Buf (Elt F) ((cfg0.win 8).arr.view.loc (c : Thread nD τ)))
    (hG : ((dat V c).toRRel marked (Rl Good)).ArrAt 8 cfg0.N G) : TableOK Good G := by
  obtain ⟨X, hX, hA⟩ := hG.exists_exact
  have hS : ∀ t : Fin cfg0.N, Strips Good t.val (X t) := fun t => (dat V c).toRRel_leaves (w := 8) rfl (hX t t.isLt (flush0_8 t))
  let A : (w : Fin cfg0.W) → Fin cfg0.N → (cfg0.win w).block.Idx → Elt F (cfg0.win w).elt :=
    Function.update (fun _ _ _ => Classical.arbitrary _) 8 X
  have hA8 : A 8 = X := Function.update_self _ _ _
  let D₁ := ((dat V c).toRRel marked (Rl Good)).withAfter A
  have hD : D₁.after 8 = X := hA8
  have hG' : G = D₁.arrAt 8 cfg0.N := hA A fun u _ _ => by rw [hA8]
  intro r d z hr h0 h1
  have hd : d.val < 32 := d.isLt
  have hz0 : (z 0).val < 25088 := (z 0).isLt
  let t : Fin cfg0.N := ⟨(z 0).val / 3584, by show _ < grid0.N; rw [N_0]; omega⟩
  let y : S3584x128.Idx := ix2 (n0 := 3584) (n1 := 128) ⟨(z 0).val % 3584, Nat.mod_lt _ (by decide)⟩ (z 1)
  have he : ((cfg0.win 8).blk t).view.emb y = z := funext fun a => Fin.ext (by
    match a with
    | 0 => exact (emb_8 t y).1.trans (by show 3584 * ((z 0).val / 3584) + (z 0).val % 3584 = (z 0).val; omega)
    | 1 => exact (emb_8 t y).2)
  let P : (cfg0.win 8).arr.view.ty.Idx → Elt F (cfg0.win 8).arr.view.ty.elt → Prop := fun z v =>
    ∀ (r : ℕ) (d : Fin 32), r < 100000 → ((z : S25088x128.Idx) 0).val = r % 25088 → ((z : S25088x128.Idx) 1).val = 32 * (r / 25088) + d.val → Good r d v
  have key := D₁.arrAt_forall_of_flushed 8 P (fun t _ y r d hr h0 h1 => by
    have e0 := (emb_8 t y).1.symm.trans h0
    have e1 := (emb_8 t y).2.symm.trans h1
    have hd : d.val < 32 := d.isLt
    have hy : ((y : S3584x128.Idx) 0).val < 3584 := ((y : S3584x128.Idx) 0).isLt
    have := hS t ⟨r / 25088, by omega⟩ y (ix2 (n0 := 3584) (n1 := 32) ((y : S3584x128.Idx) 0) d) rfl e1 (by
      show 25088 * (r / 25088) + 3584 * t.val + ((y : S3584x128.Idx) 0).val < 100000; omega)
    have er : 25088 * (r / 25088) + 3584 * t.val + ((y : S3584x128.Idx) 0).val = r := by omega
    have this : Good (25088 * (r / 25088) + 3584 * t.val + ((y : S3584x128.Idx) 0).val) d (X t y) := this
    rw [er, ← hD] at this
    exact this) cfg0.N t z t.isLt (flush0_8 t) (he ▸ View.emb_mem_set _ y)
  rw [hG']
  exact key r d hr h0 h1

end Cert.Proof.Run
-- ==== Proof.Region.lean ====
/-
  The TensorCore call as @main makes it: entered from every unscoped buffer at known contents, left with a good table,
  the arrays no window is on and the two weights as they were.
-/
module

public import proofs.«01_k».proof.Proof.Table
public import Idealize.ShloMosaic.Lib.Pipeline.Regions
public import Idealize.ShloMosaic.Lib.SparseCore.Threads

@[expose] public section

noncomputable section

namespace Cert.Proof.Run

open Cert.KernelIdeal Cert.KernelIdeal.Gen

open Idealize.ShloMosaic Idealize.ShloMosaic.ValueIdx
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [∀ e, Nonempty (Elt F e)]

local notation "𝕄" => MT nD τ sig (HIx 1) (Elt F) ℕ (UU F) ℕ

/-- The call takes no tables. -/
def adm : (p : Fin 1) → (pcfgs (F := F) p).Adm := fun p => (cfgs p).toPCfg_adm

/-- Before its SparseCore call the TensorCore owes units of that call only. -/
theorem Otc_none (d : Dev nD) (g : GSem nD τ sig) : (K (F := F)).Otc d 0 g none = 0 := by
  unfold SparseCore.Cfg.Otc
  simp only [tallyAt, tallyOn, Finset.sum_apply, Finsupp.coe_finset_sum]
  simp [tallyOn, Pi.single_apply]
  constructor <;> split <;> simp

variable (V : (c : Dev nD) → (b : Ref sig .tc) → Buf (Elt F) ((c : Thread nD τ).loc b)) (Good : Goodness F)

def pdats : (p : Fin 1) → (c : Dev nD) → Dat τ (Elt F) (HIx 1) ℕ (UU F) ℕ (Pipeline.pin (pcfgs (F := F)) adm p) c
  | ⟨0, _⟩ => fun c => dat V c

def rdats : (p : Fin 1) → (c : Dev nD) → RDat τ (Elt F) (HIx 1) ℕ (UU F) ℕ (Pipeline.pin (pcfgs (F := F)) adm p) c
  | ⟨0, _⟩ => fun c => (dat V c).toRRel marked (Rl Good)

/-- What is left of the unscoped buffers: the two weights at some share, the six arrays no window is on, a good table. -/
def leftBufs (c : Dev nD) : sProp 𝕄 :=
  iprop((∃ q, (c : Thread nD τ).loc main_arg2 ↦{q} V c main_arg2) ∗ (∃ q, (c : Thread nD τ).loc main_arg4 ↦{q} V c main_arg4)
    ∗ (∃ f, ⌜TableOK Good f⌝ ∗ tLoc c ↦{fullShare} f)
    ∗ Pipeline.unscopedRest (Ix := HIx 1) (Name := ℕ) (U := UU F) (Lvl := ℕ) spec0 c (V c))

/-- The core's debts, nothing recorded above level 0. -/
def lowOwes (c : Dev nD) : sProp 𝕄 :=
  iprop(∃ W, ⌜(K (F := F)).WBelow (c : Thread nD τ) W 0⌝ ∗ owes (c : Thread nD τ) ((K (F := F)).Otc c 0) W)

/-- The arrays the windows are on, out of the unscoped buffers. -/
theorem entry_split (c : Dev nD) : (unscopedBufs c (V c) : sProp 𝕄)
    ⊢ iprop(((dat V c).toRRel marked (Rl Good)).arrays ((dat V c).toRRel marked (Rl Good)).A
      ∗ Pipeline.unscopedRest (Ix := HIx 1) (Name := ℕ) (U := UU F) (Lvl := ℕ) spec0 c (V c)) :=
  Pipeline.arrays_of_unscopedBufs_shared (p := 0) (pcfgs (F := F)) adm (pdats V) winFacts₀0 sharedIn0 arr_whole0 c
      (fun _ _ => rfl) (V c) fun _ => rfl

theorem whole_4 (c : Dev nD) (f : Buf (Elt F) ((c : Thread nD τ).loc main_arg2)) :
    ((cfg0.win 4).arr.view.loc (c : Thread nD τ) ↦[(cfg0.win 4).arr.view.set]{((dat V c).toRRel marked (Rl Good)).share 4} f : sProp 𝕄)
      ⊢ (c : Thread nD τ).loc main_arg2 ↦{Pipeline.shareOf spec0 4} f := by
  rw [(arr_whole0 4).set_eq_univ]; exact .rfl

theorem whole_6 (c : Dev nD) (f : Buf (Elt F) ((c : Thread nD τ).loc main_arg4)) :
    ((cfg0.win 6).arr.view.loc (c : Thread nD τ) ↦[(cfg0.win 6).arr.view.set]{((dat V c).toRRel marked (Rl Good)).share 6} f : sProp 𝕄)
      ⊢ (c : Thread nD τ).loc main_arg4 ↦{Pipeline.shareOf spec0 6} f := by
  rw [(arr_whole0 6).set_eq_univ]; exact .rfl

theorem whole_8 (c : Dev nD) (f : Buf (Elt F) (tLoc c)) :
    ((cfg0.win 8).arr.view.loc (c : Thread nD τ) ↦[(cfg0.win 8).arr.view.set]{((dat V c).toRRel marked (Rl Good)).share 8} f : sProp 𝕄)
      ⊢ tLoc c ↦{fullShare} f := by
  rw [(arr_whole0 8).set_eq_univ]; exact .rfl

set_option backward.isDefEq.respectTransparency.types false in
def reg (hP : ∀ c, PayOK V Good c) : RDat.RegionSeg (pcfgs (F := F)) adm (rdats V Good) (default : HIx 1) (defs₀ (F := F)) 𝒱₀ (K (F := F)).L (K (F := F)).lev 0 where
  win := winFacts₀0
  block_pos := block_pos0
  stage_whole := stage_whole0
  K := PEmpty
  osem k := k.elim
  ho := Pipeline.OwnSemFacts.none _
  hbody c := (body_obligation V Good c (hP c)).toRRel
  hwaits c := RDat.cellsWaits_intro _ _ _ _ _ fun w s t => (K (F := F)).mayWait_none _ (Otc_none c)
  pre c := iprop(unscopedBufs c (V c) ∗ lowOwes (F := F) c)
  post c := iprop(leftBufs V Good c ∗ lowOwes (F := F) c)
  X _ := BI.emp
  Y _ := BI.emp
  Z c := Pipeline.unscopedRest (Ix := HIx 1) (Name := ℕ) (U := UU F) (Lvl := ℕ) spec0 c (V c)
  hentry c := by
    rw [Pipeline.ownSems0_none]
    show iprop((unscopedBufs c (V c) ∗ lowOwes (F := F) c) ∗ BI.emp ∗ _)
      ⊢ |={Set.univ}=> iprop(((dat V c).toRRel marked (Rl Good)).arrays ((dat V c).toRRel marked (Rl Good)).A ∗ _ ∗ _)
    unfold lowOwes
    iintro ⟨⟨Hub, %W, %hW, HO⟩, -, -⟩
    ihave H := (entry_split V Good c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW p hp)
      iexact HO
    isplitr; · iempintro
    iexact Hrest
  hin c := by
    show _ ⊢ (BI.emp : sProp 𝕄)
    iintro -
    iempintro
  hout c := by
    rw [Pipeline.ownSems0_none]
    show _ ⊢ iprop(BI.emp ∗ BI.emp ∗ Pipeline.scopedRest (Ix := HIx 1) (Name := ℕ) (U := UU F) (Lvl := ℕ) (Val := Elt F) spec0 c)
    rw [scopedRest0_eq]
    iintro -
    isplitr; · iempintro
    isplitr <;> iempintro
  hexit c := by
    show iprop(((dat V c).toRRel marked (Rl Good)).arraysAt cfg0.N ∗ ((dat V c).toRRel marked (Rl Good)).owesAt (default : HIx 1) (Fin.last cfg0.N)
      ∗ BI.emp ∗ Pipeline.unscopedRest (Ix := HIx 1) (Name := ℕ) (U := UU F) (Lvl := ℕ) spec0 c (V c)) ⊢ _
    unfold leftBufs lowOwes RDat.arraysAt
    rw [bigSep_W0]
    iintro ⟨⟨-, -, -, -, ⟨%f4, %h4, H4⟩, -, ⟨%f6, %h6, H6⟩, -, ⟨%f8, %h8, H8⟩⟩, ⟨%W, %hW, HO⟩, -, Hr⟩
    have e4 : f4 = V c main_arg2 := by rw [RDat.ArrAt_in _ 4 rfl] at h4; exact h4
    have e6 : f6 = V c main_arg4 := by rw [RDat.ArrAt_in _ 6 rfl] at h6; exact h6
    imodintro
    subst e4 e6
    isplitr [HO]
    · isplitl [H4]
      · iexists (Pipeline.shareOf spec0 4)
        iapply (whole_4 V Good c _); iexact H4
      isplitl [H6]
      · iexists (Pipeline.shareOf spec0 6)
        iapply (whole_6 V Good c _); iexact H6
      isplitl [H8]
      · iexists f8
        isplitr; · ipureintro; exact table_ok V Good c f8 h8
        iapply (whole_8 V Good c _); iexact H8
      iexact Hr
    iexists W
    isplitr; swap; (· iexact HO)
    ipureintro
    intro p hp
    rcases hW hp with h | ⟨w, s, rfl⟩
    · exact h
    · exact le_rfl

theorem pin_inj : Function.Injective (Pipeline.cellOf (nD := nD) (τ := τ) (Pipeline.pin (pcfgs (F := F)) adm)) := cellOf_inj

/-- The call in the pipeline's own signature. -/
theorem wp_entry (hP : ∀ c, PayOK V Good c) (c : Dev nD) (Q : PUnit → sProp 𝕄) :
    iprop((iprop(boundary (c : Thread nD τ) ∗ (reg V Good hP).post c) -∗ Q ⟨⟩)
        ∗ boundary (c : Thread nD τ) ∗ (reg V Good hP).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (c : Thread nD τ) none) Set.univ
          (.op (.customCall (Pipeline.entry 0) ()) fun x => .ret x) Q := by
  refine BI.Entails.trans ?_ (RDat.RegionSeg.wp (pcfgs (F := F)) adm (rdats V Good) (default : HIx 1) pin_inj EP (defs₀ (F := F)) 𝒱₀ _ _ (reg V Good hP) c none
    (fun _ h => nomatch h) (fun x => .ret x) Q)
  show _ ⊢ (_ : sProp 𝕄)
  iintro ⟨Hk, H⟩
  isplitl [Hk]
  · iintro H
    rw [wp_ret]
    imodintro
    iapply Hk; iexact H
  iexact H

/-- The call, as @main makes it. -/
theorem wp_call (hP : ∀ c, PayOK V Good c) (c : Dev nD) (Q : PUnit → sProp 𝕄) :
    iprop((iprop(boundary (T c : Thread nD τ) ∗ leftBufs V Good c ∗ lowOwes (F := F) c) -∗ Q ⟨⟩)
        ∗ boundary (T c : Thread nD τ) ∗ (unscopedBufs c (V c) ∗ lowOwes (F := F) c) ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs (D (F := F))) 𝒱 (T c) none) Set.univ
          (Prog.lift (.customCall (SparseCore.inner (Pipeline.entry 0)) ())) Q :=
  (wp_entry V Good hP c Q).trans ((K (F := F)).wp_liftProg (D := D) (𝒱 := 𝒱) (T c) Set.univ none (.op (.customCall (Pipeline.entry 0) ()) fun x => .ret x) Q)

end Cert.Proof.Run
-- ==== Proof.Chunk.lean ====
/-
  A quarter of the gathers: 128 rows of the packed table copied into 128 rows of the row buffer, in write mode.
-/
module

public import proofs.«01_k».proof.Proof.Common

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ (UU F) ℕ
local notation:60 ℓ " ⇝[" I "]{" q "} " f:max " ⇒ " g:max " @ " W:max => willBeTo wmE ℓ I q f g W

local notation "tV" => (Memref.whole Cert.KernelIdeal.main_v3_scv : Memref Cert.KernelIdeal.sig Kind.scVector Space.hbm Cert.KernelIdeal.S25088x128 EltTy.f32)
local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)

/-- The tile's rows: row `k` is the packed table's row of id `k`. -/
def picked (f : S25088x128.Idx → Elt F .f32) (ids : S512.Idx → BitVec 32) : S512x128.Idx → Elt F .f32 :=
  fun z => f (ix2 (n0 := 25088) (n1 := 128) ⟨(ids (ix1 (n := 512) (z 0))).toNat % 25088, Nat.mod_lt _ (by decide)⟩ (z 1))

/-- The rows from `n` on, and their row numbers; the packed table whole. -/
abbrev gRect (n : ℕ) (h : ∀ a, (![n, 0] : Fin 2 → ℕ) a + S128x128.size a ≤ S512x128.size a) : Rect S512x128 := Rect.unit (s := S512x128) ![n, 0] S128x128.size h
abbrev lRect (n : ℕ) (h : ∀ a, (![n] : Fin 1 → ℕ) a + S128.size a ≤ S512.size a) : Rect S512 := Rect.unit (s := S512) ![n] S128.size h
abbrev gV (n : ℕ) (h : ∀ a, (![n, 0] : Fin 2 → ℕ) a + S128x128.size a ≤ S512x128.size a) : Memref sig .scVector .vmem S128x128 .f32 := (rV).slice (gRect n h) (fun _ => rfl)
abbrev lV (n : ℕ) (h : ∀ a, (![n] : Fin 1 → ℕ) a + S128.size a ≤ S512.size a) : Memref sig .scVector .vmem S128 .i32 := (nV).slice (lRect n h) (fun _ => rfl)
abbrev taV : Memref sig .scVector .hbm S25088x128 .f32 :=
  (tV).slice (Rect.unit (s := S25088x128) ![0, 0] S25088x128.size inb_S25088x128_S25088x128_0_0) (fun _ => rfl)

theorem lV_read {n : ℕ} (h6) (fo : S512.Idx → Elt F .i32) (x : S128.Idx) (hx : n + (x 0).val < 512) :
    (lV n h6).view.read (Elt F) fo x = fo (ix1 (n := 512) ⟨n + (x 0).val, hx⟩) := by
  refine (View.read_apply _ _).trans ?_
  refine congrArg fo (funext fun a => ?_)
  fin_cases a
  refine Fin.ext ?_
  show n + 1 * (x 0).val = n + (x 0).val
  omega

theorem rowMajor_symm_one (k : Fin S128.numel) (x : S128.Idx) (h : (x 0).val = k.val) : S128.rowMajor.symm k = x := by
  rw [Equiv.symm_apply_eq]
  exact Fin.ext ((Shape.rowMajor_val_one x).trans h).symm

/-- The rows copied are the rows wanted. -/
theorem chunk_admitted {n : ℕ} (h7 : ∀ a, (![n, 0] : Fin 2 → ℕ) a + S128x128.size a ≤ S512x128.size a)
    (h6 : ∀ a, (![n] : Fin 1 → ℕ) a + S128.size a ≤ S512.size a)
    (f : S25088x128.Idx → Elt F .f32) (ids : S512.Idx → BitVec 32) (fo : S512.Idx → Elt F .i32)
    (hids : ∀ y, (ids y).toNat < 100000) (hred : ∀ y, (fo y : BitVec 32) = IntOp.remsi .vector (ids y) 25088#32)
    (hn : S128.numel = S128x128.size gathers_S25088x128_S128x128.axis')
    (hin : ∀ x, ((lV n h6).view.read (Elt F) fo x).toNat < S25088x128.size gathers_S25088x128_S128x128.axis) :
    (gV n h7).view.Admitted (Elt F) (fun i => some (picked f ids i))
      (SparseCore.gatherPayload gathers_S25088x128_S128x128 ((taV).view.read (Elt F) f) (SparseCore.rows ((lV n h6).view.read (Elt F) fo) hn hin)) Finset.univ := by
  intro x _ u hu
  have hx0 : (x 0).val < 128 := (x 0).isLt
  have hx1 : (x 1).val < 128 := (x 1).isLt
  have hn0 : n + 128 ≤ 512 := h6 0
  have hu' : some (picked f ids ((gV n h7).view.emb x)) = some u := (View.read_apply _ _).symm.trans hu
  refine Eq.trans ?_ (Option.some.inj hu')
  refine (View.read_apply _ _).trans (congrArg f (funext fun a => Fin.ext ?_))
  have hrow : (SparseCore.rows ((lV n h6).view.read (Elt F) fo) hn hin (x 0)).val = (ids (ix1 (n := 512) ⟨n + (x 0).val, by omega⟩)).toNat % 25088 := by
    have hk : S128.rowMajor.symm (Fin.cast hn.symm (x 0)) = ix1 (n := 128) (x 0) := rowMajor_symm_one _ _ rfl
    refine (congrArg (fun z => BitVec.toNat ((lV n h6).view.read (Elt F) fo z)) hk).trans ?_
    refine (congrArg BitVec.toNat ((lV_read h6 fo _ (by show n + (x 0).val < 512; omega)).trans (hred _))).trans ?_
    exact Cert.Words.row_toNat _ (hids _)
  fin_cases a
  · show 0 + 1 * (Shape.Gathers.idx gathers_S25088x128_S128x128 _ x 0).val = _
    have h := Shape.Gathers.idx_axis gathers_S25088x128_S128x128 (SparseCore.rows ((lV n h6).view.read (Elt F) fo) hn hin) x
    refine (Nat.zero_add _).trans ((Nat.one_mul _).trans (((congrArg Fin.val h).trans hrow).trans ?_))
    show _ = (ids _).toNat % 25088
    refine congrArg (fun k => (ids (ix1 (n := 512) k)).toNat % 25088) (Fin.ext ?_)
    show n + (x 0).val = n + 1 * (x 0).val
    omega
  · show 0 + 1 * (Shape.Gathers.idx gathers_S25088x128_S128x128 _ x 1).val = 0 + 1 * (x 1).val
    exact congrArg (fun k => 0 + 1 * k) (Shape.Gathers.idx_of_ne gathers_S25088x128_S128x128 _ x 1 (by decide))

section Issue

variable [FloatOps F] (d : Dev nD) (c : Fin τ.nSC) (j : Fin τ.nSub)

theorem credit_rows (n : ℕ) (h7 : ∀ a, (![n, 0] : Fin 2 → ℕ) a + S128x128.size a ≤ S512x128.size a) :
    ∑ k, ((gV n h7).slice (S128x128.rowRect gathers_S25088x128_S128x128.axis' k) (S128x128.stride_rowRect gathers_S25088x128_S128x128.axis' k)).view.dmaCredit
      = (gV n h7).view.dmaCredit := by
  have h0 : ∑ k, ((gV 0 inb_S512x128_S128x128_0_0).slice (S128x128.rowRect gathers_S25088x128_S128x128.axis' k) (S128x128.stride_rowRect gathers_S25088x128_S128x128.axis' k)).view.dmaCredit
      = (gV 0 inb_S512x128_S128x128_0_0).view.dmaCredit := by decide
  exact h0

/-- The issue of a quarter of the gathers. -/
theorem wp_chunk {α : Type} {Q : α → sProp 𝕄} {ιwm : ℕ} {n : ℕ} (h7 : ∀ a, (![n, 0] : Fin 2 → ℕ) a + S128x128.size a ≤ S512x128.size a)
    (h6 : ∀ a, (![n] : Fin 1 → ℕ) a + S128.size a ≤ S512.size a) {sem : DmaSem sig}
    {hp : Kind.scVector = .scVector} {hsrc : (taV).view.WordExact} {he : (EltTy.f32).bits = 32} {hsp : Space.hbm = .hbm ∨ Space.hbm = .shared} {hr : S25088x128.StreamRows 0}
    {hn : S128.numel = S128x128.size gathers_S25088x128_S128x128.axis'}
    {k : PUnit → Prog (TpuEff nD τ sig (Elt F) Λ₀ (.scVector c j)) α}
    (f : S25088x128.Idx → Elt F .f32) (ids : S512.Idx → BitVec 32) (fo : S512.Idx → Elt F .i32) (fd : S512x128.Idx → Elt F .f32)
    (hids : ∀ y, (ids y).toNat < 100000) (hred : ∀ y, (fo y : BitVec 32) = IntOp.remsi .vector (ids y) 25088#32)
    {q qo qd : PosShare TreeShare} :
    (iprop(wmInv wmE ιwm ∗ ((taV).view.loc (V d c j) ↦[(taV).view.set]{q} f)
        ∗ ((gV n h7).view.loc (V d c j) ⇝[(gV n h7).view.set]{qd} fd ⇒ (fun i => some (picked f ids i)) @ ∅)
        ∗ ((lV n h6).view.loc (V d c j) ↦[(lV n h6).view.set]{qo} fo) ∗ semVal (V d c j, SemLoc.dma sem) 0) : sProp 𝕄)
      ⊢ iprop((Transfers.Flight countersEmb (V d c j) (.dma sem) (default : HIx 1) (gV n h7).view.dmaCredit
                iprop(((gV n h7).view.loc (V d c j) ⇝[(gV n h7).view.set]{qd} fd ⇒ (fun i => some (picked f ids i)) @ (gV n h7).view.set)
                  ∗ ((taV).view.loc (V d c j) ↦[(taV).view.set]{q} f) ∗ ((lV n h6).view.loc (V d c j) ↦[(lV n h6).view.set]{qo} fo))
              -∗ wp frame (wpE (defs₀ (F := F)) 𝒱₀ (V d c j) none) Set.univ (k ⟨⟩) Q)
          -∗ wp frame (wpE (defs₀ (F := F)) 𝒱₀ (V d c j) none) Set.univ
            (SparseCore.enqueueIndirectGather hp (taV) (gV n h7) gathers_S25088x128_S128x128 (lV n h6) hn sem hsrc he hsp hr >>= k) Q) := by
  have hn0 : n + 128 ≤ 512 := h6 0
  have hin : ∀ x, ((lV n h6).view.read (Elt F) fo x).toNat < S25088x128.size gathers_S25088x128_S128x128.axis := fun x => by
    have hx : (x 0).val < 128 := (x 0).isLt
    have h := (lV_read h6 fo x (by omega)).trans (hred _)
    refine lt_of_eq_of_lt ((congrArg BitVec.toNat h).trans (Cert.Words.row_toNat _ (hids _))) ?_
    exact Nat.mod_lt _ (by decide)
  exact Cert.RowGather.wp_gatherWritten (c := V d c j) countersEmb 𝒱₀ none wmE (default : HIx 1) _ (credit_rows n h7) (by decide) hin
    (chunk_admitted h7 h6 f ids fo hids hred hn hin)

end Issue

end Cert.Proof.Run
-- ==== Proof.Quarters.lean ====
/-
  A tile's 512 rows, and its 512 row numbers, as four quarters of 128.
-/
module

public import proofs.«01_k».proof.Proof.Chunk

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ
local notation:60 ℓ " ⇝[" I "]{" q "} " f:max " ⇒ " g:max " @ " W:max => willBeTo wmE ℓ I q f g W

local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)

/-- What a set of places holds separately over disjoint parts, held of all places, is held of four quarters. -/
theorem quarters {ι : Type} [Fintype ι] [DecidableEq ι] (Φ : Finset ι → sProp 𝕄)
    (hΦ : ∀ I J, Disjoint I J → Φ (I ∪ J) = iprop(Φ I ∗ Φ J)) (key : ι → ℕ) (hk : ∀ i, key i < 512) (A₀ A₁ A₂ A₃ : Finset ι)
    (h₀ : ∀ i, i ∈ A₀ ↔ 0 ≤ key i ∧ key i < 128) (h₁ : ∀ i, i ∈ A₁ ↔ 128 ≤ key i ∧ key i < 256)
    (h₂ : ∀ i, i ∈ A₂ ↔ 256 ≤ key i ∧ key i < 384) (h₃ : ∀ i, i ∈ A₃ ↔ 384 ≤ key i ∧ key i < 512) :
    Φ Finset.univ = iprop(Φ A₀ ∗ Φ A₁ ∗ Φ A₂ ∗ Φ A₃) := by
  have hu : (Finset.univ : Finset ι) = A₀ ∪ (A₁ ∪ (A₂ ∪ A₃)) := by
    ext i
    have := hk i
    simp only [Finset.mem_univ, Finset.mem_union, h₀, h₁, h₂, h₃, true_iff]
    omega
  rw [hu, hΦ, hΦ, hΦ]
  all_goals
    refine Finset.disjoint_left.mpr fun i hi hj => ?_
    simp only [Finset.mem_union, h₀, h₁, h₂, h₃] at hi hj
    omega

theorem mem_gV (n : ℕ) (h) (i : S512x128.Idx) : i ∈ (gV n h).view.set ↔ n ≤ (i 0).val ∧ (i 0).val < n + 128 := by
  constructor
  · intro hi
    obtain ⟨x, _, hx⟩ := Finset.mem_map.mp hi
    have hx0 : (x 0).val < 128 := (x 0).isLt
    have e : (i 0).val = n + 1 * (x 0).val := (congrArg (fun z : S512x128.Idx => (z 0).val) hx).symm
    omega
  · intro hi
    refine Finset.mem_map.mpr ⟨ix2 (n0 := 128) (n1 := 128) ⟨(i 0).val - n, by omega⟩ (i 1), Finset.mem_univ _, ?_⟩
    funext a
    fin_cases a
    · refine Fin.ext ?_
      show n + 1 * ((i 0).val - n) = (i 0).val
      omega
    · refine Fin.ext ?_
      show 0 + 1 * (i 1).val = (i 1).val
      omega

theorem mem_lV (n : ℕ) (h) (i : S512.Idx) : i ∈ (lV n h).view.set ↔ n ≤ (i 0).val ∧ (i 0).val < n + 128 := by
  constructor
  · intro hi
    obtain ⟨x, _, hx⟩ := Finset.mem_map.mp hi
    have hx0 : (x 0).val < 128 := (x 0).isLt
    have e : (i 0).val = n + 1 * (x 0).val := (congrArg (fun z : S512.Idx => (z 0).val) hx).symm
    omega
  · intro hi
    refine Finset.mem_map.mpr ⟨ix1 (n := 128) ⟨(i 0).val - n, by omega⟩, Finset.mem_univ _, ?_⟩
    funext a
    fin_cases a
    refine Fin.ext ?_
    show n + 1 * ((i 0).val - n) = (i 0).val
    omega

theorem willBeTo_parts {ℓ : Loc nD τ sig} {I J W : Finset (Idx ℓ)} {q : PosShare TreeShare} {f : Buf (Elt F) ℓ} {g : Tgt (Elt F) ℓ} (h : Disjoint I J) :
    (ℓ ⇝[I ∪ J]{q} f ⇒ g @ W : sProp 𝕄) = iprop((ℓ ⇝[I]{q} f ⇒ g @ W) ∗ ℓ ⇝[J]{q} f ⇒ g @ W) :=
  BI.Entails.antisymm (BI.Region.held_union h).1 (BI.Region.held_union h).2

variable (d : Dev nD) (c : Fin τ.nSC) (j : Fin τ.nSub)

/-- The row numbers as four quarters. -/
theorem numbers_quarters (q : PosShare TreeShare) (f : S512.Idx → Elt F .i32) :
    ((nV).view.loc (V d c j) ↦{q} f : sProp 𝕄)
      = iprop(((lV 0 inb_S512_S128_0).view.loc (V d c j) ↦[(lV 0 inb_S512_S128_0).view.set]{q} f)
          ∗ ((lV 128 inb_S512_S128_128).view.loc (V d c j) ↦[(lV 128 inb_S512_S128_128).view.set]{q} f)
          ∗ ((lV 256 inb_S512_S128_256).view.loc (V d c j) ↦[(lV 256 inb_S512_S128_256).view.set]{q} f)
          ∗ ((lV 384 inb_S512_S128_384).view.loc (V d c j) ↦[(lV 384 inb_S512_S128_384).view.set]{q} f)) :=
  quarters (ι := S512.Idx) (fun I => ((nV).view.loc (V d c j) ↦[I]{q} f : sProp 𝕄))
    (fun I J h => BI.Entails.antisymm (pointsTo_union (ℓ := (nV).view.loc (V d c j)) h).1 (pointsTo_union (ℓ := (nV).view.loc (V d c j)) h).2)
    (fun i => (i 0).val) (fun i => (i 0).isLt) _ _ _ _ (mem_lV 0 _) (mem_lV 128 _) (mem_lV 256 _) (mem_lV 384 _)

/-- The rows in write mode as four quarters. -/
theorem rows_quarters (q : PosShare TreeShare) (f : S512x128.Idx → Elt F .f32) (g : S512x128.Idx → Option (Elt F .f32)) (W : Finset S512x128.Idx) :
    ((rV).view.loc (V d c j) ⇝[Finset.univ]{q} f ⇒ g @ W : sProp 𝕄)
      = iprop(((gV 0 inb_S512x128_S128x128_0_0).view.loc (V d c j) ⇝[(gV 0 inb_S512x128_S128x128_0_0).view.set]{q} f ⇒ g @ W)
          ∗ ((gV 128 inb_S512x128_S128x128_128_0).view.loc (V d c j) ⇝[(gV 128 inb_S512x128_S128x128_128_0).view.set]{q} f ⇒ g @ W)
          ∗ ((gV 256 inb_S512x128_S128x128_256_0).view.loc (V d c j) ⇝[(gV 256 inb_S512x128_S128x128_256_0).view.set]{q} f ⇒ g @ W)
          ∗ ((gV 384 inb_S512x128_S128x128_384_0).view.loc (V d c j) ⇝[(gV 384 inb_S512x128_S128x128_384_0).view.set]{q} f ⇒ g @ W)) :=
  quarters (ι := S512x128.Idx) (fun I => ((rV).view.loc (V d c j) ⇝[I]{q} f ⇒ g @ W : sProp 𝕄))
    (fun I J h => willBeTo_parts (ℓ := (rV).view.loc (V d c j)) h)
    (fun i => (i 0).val) (fun i => (i 0).isLt) _ _ _ _ (mem_gV 0 _) (mem_gV 128 _) (mem_gV 256 _) (mem_gV 384 _)

end Cert.Proof.Run
-- ==== Proof.Drain.lean ====
/-
  A quarter of the rows waited for and selected from, later quarters still in flight.
-/
module

public import proofs.«01_k».proof.Proof.Quarters

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.SL.RA.PCS

variable {F : FTy → Type}

local notation "𝕄" => MT nD τ sig (HIx 1) (Elt F) ℕ (UU F) ℕ
local notation:60 ℓ " ⇝[" I "]{" q "} " f:max " ⇒ " g:max " @ " W:max => willBeTo wmE ℓ I q f g W

local notation "sV" => (Memref.whole Cert.KernelIdeal.cc1_scratch0 : Memref Cert.KernelIdeal.sig Kind.scVector Space.vmem Cert.KernelIdeal.S512 EltTy.i32)
local notation "xV" => (Memref.whole Cert.KernelIdeal.cc1_scratch3 : Memref Cert.KernelIdeal.sig Kind.scVector Space.vmem Cert.KernelIdeal.S32x512 EltTy.f32)
local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)

/-- What the task selects: for id `y 1` the packed table's words of its row and quarter. -/
def selected (f : S25088x128.Idx → Elt F .f32) (ids : S512.Idx → BitVec 32) : S32x512.Idx → Elt F .f32 :=
  fun y => picked f ids (ix2 (n0 := 512) (n1 := 128) (y 1)
    ⟨(32 * ((ids (ix1 (n := 512) (y 1))).toNat / 25088) + (y 0).val) % 128, Nat.mod_lt _ (by decide)⟩)

/-- The rows before row `n`. -/
def upTo (n : ℕ) : Finset S512x128.Idx := Finset.univ.filter fun z => (z 0).val < n

theorem mem_upTo (n : ℕ) (z : S512x128.Idx) : z ∈ upTo n ↔ (z 0).val < n := by simp [upTo]

theorem picked_selected (f : S25088x128.Idx → Elt F .f32) (ids : S512.Idx → BitVec 32) (hids : ∀ y, (ids y).toNat < 100000)
    (y : S32x512.Idx) (k : S512.Idx) (z : S512x128.Idx) (hk : (k 0).val = (y 1).val) (h0 : (z 0).val = (y 1).val)
    (h1 : (z 1).val = 32 * ((ids k).toNat / 25088) + (y 0).val) : picked f ids z = selected f ids y := by
  have ek : k = ix1 (n := 512) (y 1) := by
    funext a; fin_cases a; exact Fin.ext hk
  have hy : (y 0).val < 32 := (y 0).isLt
  have hlt := hids k
  refine congrArg (picked f ids) (funext fun a => ?_)
  fin_cases a
  · exact Fin.ext h0
  · refine Fin.ext ?_
    show (z 1).val = (32 * ((ids (ix1 (n := 512) (y 1))).toNat / 25088) + (y 0).val) % 128
    rw [← ek, h1, Nat.mod_eq_of_lt (by omega)]

variable [FloatOps F] (d : Dev nD) (c : Fin τ.nSC) (j : Fin τ.nSub)

/-- The marks of the rows before `n`, joined with a quarter's. -/
theorem marks_left {n : ℕ} (h7) (i : S512x128.Idx) :
    i ∈ upTo n ∪ ((gV n h7).view.set ∩ (gV n h7).view.set) ↔ i ∈ upTo (n + 128) := by
  rw [Finset.inter_self, Finset.mem_union, mem_upTo, mem_upTo, mem_gV]; omega

theorem wp_drain {α : Type} {Q : α → sProp 𝕄} {ιwm : ℕ} {G : ℕ} (hG : G + 8 ≤ 32) (h7) {sem : DmaSem sig}
    {hsrc : (taV).view.WordExact} {hdst : (gV (16 * G) h7).view.WordExact}
    (Lp : Scf.Loop 32) (hok : Lp.OK) (hL : Lp.trips = 8)
    (body : Fin Lp.trips → Unit → Prog (TpuEff nD τ sig (Elt F) Λ₀ (V d c j).2) Unit)
    (hbody : ∀ t u, ∃ (g : BitVec 32) (o : Fin 1 → ℕ) (ho : ∀ a, o a + S16.size a ≤ S512.size a) (hn : o 0 ≤ 496),
      g.toNat = G + t.val ∧ o 0 = 16 * g.toNat ∧ body t u = Cert.Select.trip (p := (V d c j).2) (sV) (rV) (xV) g o ho hn)
    {k : Unit → Prog (TpuEff nD τ sig (Elt F) Λ₀ (V d c j).2) α}
    (f : S25088x128.Idx → Elt F .f32) (ids : S512.Idx → BitVec 32) (fs : S512.Idx → Elt F .i32) (fd : S512x128.Idx → Elt F .f32)
    (hids : ∀ y, (ids y).toNat < 100000) (hfs : (sV).view.read (Elt F) fs = ids)
    (R : sProp 𝕄) (O : CellTallies nD τ sig (HIx 1)) (W : Waits sig (HIx 1)) :
    (iprop(wmInv wmE ιwm ∗ Transfers.MayWaits (V d c j) (default : HIx 1) O
        ∗ Transfers.Flight countersEmb (V d c j) (.dma sem) (default : HIx 1) (gV (16 * G) h7).view.dmaCredit
            iprop(((gV (16 * G) h7).view.loc (V d c j) ⇝[(gV (16 * G) h7).view.set]{(fullShare : PosShare TreeShare).right} fd ⇒ (fun i => some (picked f ids i)) @ (gV (16 * G) h7).view.set) ∗ R)
        ∗ owes (V d c j) O W
        ∗ ((sV).view.loc (V d c j) ↦{fullShare} fs)
        ∗ ((rV).view.loc (V d c j) ⇝[Finset.univ]{(fullShare : PosShare TreeShare).left} fd ⇒ (fun i => some (picked f ids i)) @ (upTo (16 * G)))
        ∗ ∃ x, ⌜Cert.Select.Done (V d c j) (xV) (selected f ids) (16 * G) x⌝ ∗ (xV).view.loc (V d c j) ↦{fullShare} x) : sProp 𝕄)
      ⊢ iprop((R ∗ semVal (V d c j, SemLoc.dma sem) 0 ∗ owes (V d c j) O (insert (SemLoc.dma sem, (default : HIx 1)) W)
            ∗ ((sV).view.loc (V d c j) ↦{fullShare} fs)
            ∗ ((rV).view.loc (V d c j) ⇝[Finset.univ]{(fullShare : PosShare TreeShare).left} fd ⇒ (fun i => some (picked f ids i)) @ (upTo (16 * (G + 8))))
            ∗ ((gV (16 * G) h7).view.loc (V d c j) ⇝[(gV (16 * G) h7).view.set]{(fullShare : PosShare TreeShare).right} fd ⇒ (fun i => some (picked f ids i)) @ Finset.univ)
            ∗ (∃ x, ⌜Cert.Select.Done (V d c j) (xV) (selected f ids) (16 * (G + 8)) x⌝ ∗ (xV).view.loc (V d c j) ↦{fullShare} x)
              -∗ wp frame (wpE (defs₀ (F := F)) 𝒱₀ (V d c j) none) Set.univ (k ⟨⟩) Q)
          -∗ wp frame (wpE (defs₀ (F := F)) 𝒱₀ (V d c j) none) Set.univ
            (SparseCore.waitIndirectGather sem (taV) (gV (16 * G) h7) hsrc hdst >>= fun _ => Scf.Loop.for Lp hok ⟨⟩ body >>= k) Q) := by
  iintro ⟨#Hwm, #Hmw, Hfl, HO, Hs, Hr, Hx⟩ HK
  iapply (Transfers.wp_waitLocalO (defs := defs₀ (F := F)) countersEmb 𝒱₀ (V d c j) none (srcw := taV) (dstw := gV (16 * G) h7) (default : HIx 1) (rfl : (gV (16 * G) h7).view.dmaCredit = _)) $$ [Hfl HO]
  · isplitl [Hfl]; · iexact Hfl
    isplitl [HO]; · iexact HO
    iapply (Transfers.MayWaits.elim (SemLoc.dma sem)) $$ Hmw
  iintro ⟨⟨Hc, HR⟩, Hsem, HO⟩
  ihave H := (Cert.RowGather.willBeTo_learn wmE (ℓ := (rV).view.loc (V d c j)) (PosShare.mem_left_op_right (fullShare : PosShare TreeShare)) (Finset.subset_univ (gV (16 * G) h7).view.set)) $$ [Hr Hc]
  · isplitl [Hr]; · iexact Hr
    iexact Hc
  icases H with ⟨Hr, Hc⟩
  ihave Hr' := (Entails.of_eq (Cert.RowGather.willBeTo_marks wmE (ℓ := (rV).view.loc (V d c j)) fun i _ => marks_left h7 i)) $$ Hr
  ihave Hc' := (Entails.of_eq (Cert.RowGather.willBeTo_marks wmE (ℓ := (rV).view.loc (V d c j)) (W' := Finset.univ) fun i hi =>
    (by simp only [Finset.mem_union, Finset.mem_univ, iff_true]; exact Or.inr hi))) $$ Hc
  iapply (Cert.Select.wp_group (defs := defs₀ (F := F)) 𝒱₀ (V d c j) none wmE (arg5 := sV) (arg7 := rV) (arg8 := xV) Lp hok hL G hG body hbody
    (S5 := Finset.univ) (Finset.subset_univ _) (S7 := Finset.univ) (Finset.subset_univ _) (S8 := Finset.univ) (Finset.subset_univ _)
    (q := (fullShare : PosShare TreeShare).left) (q5 := fullShare) (fi := fs) (f := fd) (t := picked f ids) (W := upTo (16 * G + 128)) (selected f ids)
    (fun y => by rw [hfs]; exact hids y) (fun z _ h2 => (mem_upTo _ z).mpr h2)
    (fun y k z hk h0 h1 => by rw [hfs] at h1; exact picked_selected f ids hids y k z hk h0 h1)) $$ [Hs Hr' Hx]
  · isplitr; · iexact Hwm
    isplitl [Hs]; · iexact Hs
    isplitl [Hr']; · iexact Hr'
    iexact Hx
  iintro ⟨Hs, Hr, Hx⟩
  iapply HK
  isplitl [HR]; · iexact HR
  isplitl [Hsem]; · iexact Hsem
  isplitl [HO]; · iexact HO
  isplitl [Hs]; · iexact Hs
  isplitl [Hr]; · iexact Hr
  isplitl [Hc']; · iexact Hc'
  iexact Hx

end Cert.Proof.Run
-- ==== Proof.Tile.lean ====
/-
  One vector subcore's task: its 512 ids fetched, the row numbers computed, the rows gathered in four quarters, each
  quarter waited for and selected from while the later ones are in flight, the selected block written out.
-/
module

public import proofs.«01_k».proof.Proof.Drain

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ (UU F) ℕ
local notation:60 ℓ " ⇝[" I "]{" q "} " f:max " ⇒ " g:max " @ " W:max => willBeTo wmE ℓ I q f g W

local notation "tV" => (Memref.whole Cert.KernelIdeal.main_v3_scv : Memref Cert.KernelIdeal.sig Kind.scVector Space.hbm Cert.KernelIdeal.S25088x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v4_scv : Memref Cert.KernelIdeal.sig Kind.scVector Space.hbm Cert.KernelIdeal.S32x16384 EltTy.f32)
local notation "sV" => (Memref.whole Cert.KernelIdeal.cc1_scratch0 : Memref Cert.KernelIdeal.sig Kind.scVector Space.vmem Cert.KernelIdeal.S512 EltTy.i32)
local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)
local notation "xV" => (Memref.whole Cert.KernelIdeal.cc1_scratch3 : Memref Cert.KernelIdeal.sig Kind.scVector Space.vmem Cert.KernelIdeal.S32x512 EltTy.f32)

variable [FloatOps F] (d : Dev nD) (L : grid1.Coords)

abbrev cV (L : grid1.Coords) : Fin τ.nSC := (L 0).castLE hcore1
abbrev jV (L : grid1.Coords) : Fin τ.nSub := (L 1).castLE hsub1

/-- The task's ids and its columns of the result. -/
abbrev iK (L : grid1.Coords) : Memref sig .scVector .hbm S512 .i32 := (iV).slice (Rect.unit (s := S16384) (k1_off1 L) S512.size (k1_off1_inb L)) (fun _ => rfl)
abbrev oK (L : grid1.Coords) : Memref sig .scVector .hbm S32x512 .f32 := (oV).slice (Rect.unit (s := S32x16384) (k1_off135 L) S32x512.size (k1_off135_inb L)) (fun _ => rfl)

/-- The task's ids as words. -/
abbrev tids (mi : S16384.Idx → BitVec 32) (L : grid1.Coords) : S512.Idx → BitVec 32 := (iK L).view.read (Elt F) (mi : S16384.Idx → Elt F .i32)

set_option maxHeartbeats 4000000 in
/-- The task's program, from its buffers and semaphores. -/
theorem tile_core {ιwm : ℕ} (mi : S16384.Idx → BitVec 32) (hpre : ∀ y, (mi y).toNat < 100000)
    (f : S25088x128.Idx → Elt F .f32) (fs fn : S512.Idx → Elt F .i32) (fr : S512x128.Idx → Elt F .f32) (fx : S32x512.Idx → Elt F .f32)
    (fo : S32x16384.Idx → Elt F .f32) (qi qt : PosShare TreeShare)
    (O : CellTallies nD τ sig (HIx 1)) (W : Waits sig (HIx 1)) :
    (iprop(Transfers.MayWaits (V d (cV L) (jV L)) (default : HIx 1) O ∗ wmInv wmE ιwm
        ∗ ((iK L).view.loc (V d (cV L) (jV L)) ↦[(iK L).view.set]{qi} (mi : S16384.Idx → Elt F .i32))
        ∗ ((taV).view.loc (V d (cV L) (jV L)) ↦[(taV).view.set]{qt} f)
        ∗ ((oK L).view.loc (V d (cV L) (jV L)) ↦[(oK L).view.set]{fullShare} fo)
        ∗ ((sV).view.loc (V d (cV L) (jV L)) ↦{fullShare} fs) ∗ ((nV).view.loc (V d (cV L) (jV L)) ↦{fullShare} fn)
        ∗ ((rV).view.loc (V d (cV L) (jV L)) ↦{fullShare} fr) ∗ ((xV).view.loc (V d (cV L) (jV L)) ↦{fullShare} fx)
        ∗ semVal (V d (cV L) (jV L), SemLoc.dma cc1_scratch4.sem) 0 ∗ semVal (V d (cV L) (jV L), SemLoc.dma cc1_scratch5.sem) 0
        ∗ semVal (V d (cV L) (jV L), SemLoc.dma cc1_scratch6.sem) 0 ∗ semVal (V d (cV L) (jV L), SemLoc.dma cc1_scratch7.sem) 0
        ∗ semVal (V d (cV L) (jV L), SemLoc.dma cc1_scoped0.sem) 0 ∗ semVal (V d (cV L) (jV L), SemLoc.dma cc1_scoped1.sem) 0
        ∗ owes (V d (cV L) (jV L)) O W) : sProp 𝕄)
      ⊢ wp frame (wpE (defs₀ (F := F)) 𝒱₀ (V d (cV L) (jV L)) none) Set.univ
          (cc1_gather_k L tV (Memref.isWhole_whole _) iV (Memref.isWhole_whole _) oV (Memref.isWhole_whole _)
            sV (Memref.isWhole_whole _) nV (Memref.isWhole_whole _) rV (Memref.isWhole_whole _) xV (Memref.isWhole_whole _)
            cc1_scratch4 cc1_scratch5 cc1_scratch6 cc1_scratch7 cc1_scoped0 cc1_scoped1)
          fun _ => iprop((∃ g, ⌜∀ y, g ((oK L).view.emb y) = selected f (tids (F := F) mi L) y⌝
              ∗ (oK L).view.loc (V d (cV L) (jV L)) ↦[(oK L).view.set]{fullShare} g)
            ∗ ((∃ f, (sV).view.loc (V d (cV L) (jV L)) ↦{fullShare} f) ∗ (∃ f, (nV).view.loc (V d (cV L) (jV L)) ↦{fullShare} f)
              ∗ (∃ f, (rV).view.loc (V d (cV L) (jV L)) ↦{fullShare} f) ∗ (∃ f, (xV).view.loc (V d (cV L) (jV L)) ↦{fullShare} f))
            ∗ (semVal (V d (cV L) (jV L), SemLoc.dma cc1_scratch4.sem) 0 ∗ semVal (V d (cV L) (jV L), SemLoc.dma cc1_scratch5.sem) 0
              ∗ semVal (V d (cV L) (jV L), SemLoc.dma cc1_scratch6.sem) 0 ∗ semVal (V d (cV L) (jV L), SemLoc.dma cc1_scratch7.sem) 0
              ∗ semVal (V d (cV L) (jV L), SemLoc.dma cc1_scoped0.sem) 0 ∗ semVal (V d (cV L) (jV L), SemLoc.dma cc1_scoped1.sem) 0)
            ∗ ∃ W', ⌜∀ p ∈ W', p ∈ W ∨ p.2 = none⌝ ∗ owes (V d (cV L) (jV L)) O W') := by
  rw [cc1_gather_k_eq_skeleton]; unfold cc1_gather_k_skel
  rw [k1_part25_eq_skeleton, k1_part26_eq_skeleton]; unfold k1_part25_skel k1_part26_skel
  iintro ⟨#Hmw, #Hwm, Hi, Ht, Ho, Hs, Hn, Hr, Hx, Hc4, Hc5, Hc6, Hc7, HcA, HcB, HO⟩
  rw [wp_bind]
  sl_exec
  iapply (Cert.Select.wp_reduce (defs := defs₀ (F := F)) 𝒱₀ (V d (cV L) (jV L)) none (arg5 := sV) (arg6 := nV) k1_t1_ok _ (fun t u => Cert.Select.t1_eq _ _ _ _ _ _ _ _ _ _ _ _ _ _ _ _ _ _ _ _ _ _ _)
    (S5 := Finset.univ) (Finset.subset_univ _) (S6 := Finset.univ) (Finset.subset_univ _)) $$ [Hs Hn]
  · isplitl [Hs]; · iexact Hs
    iexact Hn
  iintro ⟨Hs, %fn', %hfn', Hn⟩
  have hfs : (sV).view.read (Elt F) ((sV).view.write (Elt F) fs (tile_core.sl.dma0 L mi) Finset.univ) = tids (F := F) mi L := by
    rw [View.write_whole_univ, View.read_whole]; rfl
  have hids : ∀ y, (tids (F := F) mi L y).toNat < 100000 := fun y => hpre _
  have hred : ∀ y : S512.Idx, (fn' y : BitVec 32) = IntOp.remsi .vector (tids (F := F) mi L y) 25088#32 := fun y => by
    have h := hfn' y (y 0).isLt
    rw [hfs] at h
    exact h
  clear hfn'
  -- The rows enter write mode: the left half is read from, the right half is what the copies write into.
  imod (pointsTo_castIn (emb := wmE) (ιwm := ιwm) (ℓ := (rV).view.loc (V d (cV L) (jV L))) (fun i => some (picked f (tids (F := F) mi L) i))) $$ [Hr] with Hr
  · isplitr; · iexact Hwm
    iexact Hr
  ihave Hr := (Cert.RowGather.willBeTo_halve wmE (PosShare.mem_left_op_right (fullShare : PosShare TreeShare))) $$ Hr
  icases Hr with ⟨Hr, Hq⟩
  ihave Hq := (Entails.of_eq (rows_quarters d (cV L) (jV L) _ _ _ _)) $$ Hq
  icases Hq with ⟨Hq0, Hq1, Hq2, Hq3⟩
  ihave Hn := (Entails.of_eq (numbers_quarters d (cV L) (jV L) _ _)) $$ Hn
  icases Hn with ⟨Hn0, Hn1, Hn2, Hn3⟩
  ihave Ht := (pointsTo_share (PosShare.mem_left_op_right qt)).1 $$ Ht
  icases Ht with ⟨Ht, Ht'⟩
  ihave Ht := (pointsTo_share (PosShare.mem_left_op_right qt.left)).1 $$ Ht
  icases Ht with ⟨Ht0, Ht1⟩
  ihave Ht' := (pointsTo_share (PosShare.mem_left_op_right qt.right)).1 $$ Ht'
  icases Ht' with ⟨Ht2, Ht3⟩
  iapply (wp_chunk d (cV L) (jV L) inb_S512x128_S128x128_0_0 inb_S512_S128_0 f (tids (F := F) mi L) fn' fr hids hred) $$ [Ht0 Hq0 Hn0 Hc4]
  · isplitr; · iexact Hwm
    isplitl [Ht0]; · iexact Ht0
    isplitl [Hq0]; · iexact Hq0
    isplitl [Hn0]; · iexact Hn0
    iexact Hc4
  iintro Hf0
  iapply (wp_chunk d (cV L) (jV L) inb_S512x128_S128x128_128_0 inb_S512_S128_128 f (tids (F := F) mi L) fn' fr hids hred) $$ [Ht1 Hq1 Hn1 Hc5]
  · isplitr; · iexact Hwm
    isplitl [Ht1]; · iexact Ht1
    isplitl [Hq1]; · iexact Hq1
    isplitl [Hn1]; · iexact Hn1
    iexact Hc5
  iintro Hf1
  iapply (wp_chunk d (cV L) (jV L) inb_S512x128_S128x128_256_0 inb_S512_S128_256 f (tids (F := F) mi L) fn' fr hids hred) $$ [Ht2 Hq2 Hn2 Hc6]
  · isplitr; · iexact Hwm
    isplitl [Ht2]; · iexact Ht2
    isplitl [Hq2]; · iexact Hq2
    isplitl [Hn2]; · iexact Hn2
    iexact Hc6
  iintro Hf2
  iapply (wp_chunk d (cV L) (jV L) inb_S512x128_S128x128_384_0 inb_S512_S128_384 f (tids (F := F) mi L) fn' fr hids hred) $$ [Ht3 Hq3 Hn3 Hc7]
  · isplitr; · iexact Hwm
    isplitl [Ht3]; · iexact Ht3
    isplitl [Hq3]; · iexact Hq3
    isplitl [Hn3]; · iexact Hn3
    iexact Hc7
  iintro Hf3
  rw [wp_pure]
  imodintro
  rw [wp_bind]
  ihave Hr := (Entails.of_eq (Cert.RowGather.willBeTo_marks wmE (ℓ := (rV).view.loc (V d (cV L) (jV L))) (W' := upTo (16 * 0)) fun i _ =>
    (by rw [mem_upTo]; simp))) $$ Hr
  iapply (wp_drain d (cV L) (jV L) (G := 0) (by decide) inb_S512x128_S128x128_0_0 k1_t2_loop k1_t2_ok (by decide) _
    (fun t u => ⟨_, _, _, _, (Cert.Select.t2_at t).1, (Cert.Select.t2_at t).2, Cert.Select.t2_eq _ _ _ _ _ _ _ _ _ _ _ _ _ _ _ _ _ _ _ _ _ _ _⟩)
    f (tids (F := F) mi L) _ fr hids hfs _ O _) $$ [Hf0 HO Hs Hr Hx]
  · isplitr; · iexact Hwm
    isplitr; · iexact Hmw
    isplitl [Hf0]; · iexact Hf0
    isplitl [HO]; · iexact HO
    isplitl [Hs]; · iexact Hs
    isplitl [Hr]; · iexact Hr
    iexists fx
    isplitr; · ipureintro; intro y hy; exact absurd hy (Nat.not_lt_zero _)
    iexact Hx
  iintro ⟨⟨_Ht0, Hn0⟩, Hc4, HO, Hs, Hr, Hq0, Hx⟩
  iapply (wp_drain d (cV L) (jV L) (G := 8) (by decide) inb_S512x128_S128x128_128_0 k1_t3_loop k1_t3_ok (by decide) _
    (fun t u => ⟨_, _, _, _, (Cert.Select.t3_at t).1, (Cert.Select.t3_at t).2, Cert.Select.t3_eq _ _ _ _ _ _ _ _ _ _ _ _ _ _ _ _ _ _ _ _ _ _ _⟩)
    f (tids (F := F) mi L) _ fr hids hfs _ O _) $$ [Hf1 HO Hs Hr Hx]
  · isplitr; · iexact Hwm
    isplitr; · iexact Hmw
    isplitl [Hf1]; · iexact Hf1
    isplitl [HO]; · iexact HO
    isplitl [Hs]; · iexact Hs
    isplitl [Hr]; · iexact Hr
    iexact Hx
  iintro ⟨⟨_Ht1, Hn1⟩, Hc5, HO, Hs, Hr, Hq1, Hx⟩
  iapply (wp_drain d (cV L) (jV L) (G := 16) (by decide) inb_S512x128_S128x128_256_0 k1_t4_loop k1_t4_ok (by decide) _
    (fun t u => ⟨_, _, _, _, (Cert.Select.t4_at t).1, (Cert.Select.t4_at t).2, Cert.Select.t4_eq _ _ _ _ _ _ _ _ _ _ _ _ _ _ _ _ _ _ _ _ _ _ _⟩)
    f (tids (F := F) mi L) _ fr hids hfs _ O _) $$ [Hf2 HO Hs Hr Hx]
  · isplitr; · iexact Hwm
    isplitr; · iexact Hmw
    isplitl [Hf2]; · iexact Hf2
    isplitl [HO]; · iexact HO
    isplitl [Hs]; · iexact Hs
    isplitl [Hr]; · iexact Hr
    iexact Hx
  iintro ⟨⟨_Ht2, Hn2⟩, Hc6, HO, Hs, Hr, Hq2, Hx⟩
  iapply (wp_drain d (cV L) (jV L) (G := 24) (by decide) inb_S512x128_S128x128_384_0 k1_t5_loop k1_t5_ok (by decide) _
    (fun t u => ⟨_, _, _, _, (Cert.Select.t5_at t).1, (Cert.Select.t5_at t).2, Cert.Select.t5_eq _ _ _ _ _ _ _ _ _ _ _ _ _ _ _ _ _ _ _ _ _ _ _⟩)
    f (tids (F := F) mi L) _ fr hids hfs _ O _) $$ [Hf3 HO Hs Hr Hx]
  · isplitr; · iexact Hwm
    isplitr; · iexact Hmw
    isplitl [Hf3]; · iexact Hf3
    isplitl [HO]; · iexact HO
    isplitl [Hs]; · iexact Hs
    isplitl [Hr]; · iexact Hr
    iexact Hx
  iintro ⟨⟨_Ht3, Hn3⟩, Hc7, HO, Hs, Hr, Hq3, Hx⟩
  rw [wp_pure]
  imodintro
  -- The rows out of write mode, the row numbers whole again.
  ihave Hq := (Entails.of_eq (rows_quarters d (cV L) (jV L) _ _ _ _).symm) $$ [Hq0 Hq1 Hq2 Hq3]
  · isplitl [Hq0]; · iexact Hq0
    isplitl [Hq1]; · iexact Hq1
    isplitl [Hq2]; · iexact Hq2
    iexact Hq3
  ihave Hr := (Cert.RowGather.willBeTo_join wmE (ℓ := (rV).view.loc (V d (cV L) (jV L))) (PosShare.mem_left_op_right (fullShare : PosShare TreeShare))) $$ [Hr Hq]
  · isplitl [Hr]; · iexact Hr
    iexact Hq
  imod (willBeTo_castOut_some (emb := wmE) (ιwm := ιwm) (ℓ := (rV).view.loc (V d (cV L) (jV L)))) $$ [Hr] with Hr
  · isplitr; · iexact Hwm
    iexact Hr
  ihave Hn := (Entails.of_eq (numbers_quarters d (cV L) (jV L) _ _).symm) $$ [Hn0 Hn1 Hn2 Hn3]
  · isplitl [Hn0]; · iexact Hn0
    isplitl [Hn1]; · iexact Hn1
    isplitl [Hn2]; · iexact Hn2
    iexact Hn3
  icases Hx with ⟨%x, %hx, Hx⟩
  sl_exec
  have hout : ∀ y, ((oK L).view.writes (Elt F) fo [⟨Rect.whole S32x512, tile_core.sl.dma0_1 d L x⟩]) ((oK L).view.emb y)
      = selected f (tids (F := F) mi L) y := fun y => by
    have h := congrFun (View.read_writes_whole (oK L).view fo (tile_core.sl.dma0_1 d L x)) y
    exact h.trans (hx y (y 1).isLt)
  rw [wp_ret]
  imodintro
  isplitl [Ho]
  · iexists _
    isplitr
    · ipureintro
      exact hout
    · iexact Ho
  isplitl [Hs Hn Hr Hx]
  · isplitl [Hs]; · iexists _; iexact Hs
    isplitl [Hn]; · iexists _; iexact Hn
    isplitl [Hr]; · iexists _; iexact Hr
    iexists _; iexact Hx
  isplitl [Hc4 Hc5 Hc6 Hc7 HcA HcB]
  · isplitl [Hc4]; · iexact Hc4
    isplitl [Hc5]; · iexact Hc5
    isplitl [Hc6]; · iexact Hc6
    isplitl [Hc7]; · iexact Hc7
    isplitl [HcA]; · iexact HcA
    iexact HcB
  iexists _
  isplitr
  rotate_left
  · iexact HO
  · ipureintro
    intro p hp
    simp only [Finset.mem_insert] at hp
    rcases hp with rfl | rfl | rfl | rfl | rfl | rfl | hp
    all_goals first | exact Or.inl hp | exact Or.inr rfl

end Cert.Proof.Run
-- ==== Proof.Task.lean ====
/-
  The SparseCore call's handshakes — what each carries — and the task as the launch asks for it: from the subcore's own
  buffers and semaphores, the ids, the packed table and the task's columns of the result, to good words in those columns.
-/
module

public import proofs.«01_k».proof.Proof.Tile

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ (UU F) ℕ

local notation "tV" => (Memref.whole Cert.KernelIdeal.main_v3_scv : Memref Cert.KernelIdeal.sig Kind.scVector Space.hbm Cert.KernelIdeal.S25088x128 EltTy.f32)
local notation "iV" => (Memref.whole Cert.KernelIdeal.main_arg0_scv : Memref Cert.KernelIdeal.sig Kind.scVector Space.hbm Cert.KernelIdeal.S16384 EltTy.i32)
local notation "oV" => (Memref.whole Cert.KernelIdeal.main_v4_scv : Memref Cert.KernelIdeal.sig Kind.scVector Space.hbm Cert.KernelIdeal.S32x16384 EltTy.f32)
local notation "sV" => (Memref.whole Cert.KernelIdeal.cc1_scratch0 : Memref Cert.KernelIdeal.sig Kind.scVector Space.vmem Cert.KernelIdeal.S512 EltTy.i32)
local notation "nV" => (Memref.whole Cert.KernelIdeal.cc1_scratch1 : Memref Cert.KernelIdeal.sig Kind.scVector Space.vmem Cert.KernelIdeal.S512 EltTy.i32)
local notation "rV" => (Memref.whole Cert.KernelIdeal.cc1_scratch2 : Memref Cert.KernelIdeal.sig Kind.scVector Space.vmem Cert.KernelIdeal.S512x128 EltTy.f32)
local notation "xV" => (Memref.whole Cert.KernelIdeal.cc1_scratch3 : Memref Cert.KernelIdeal.sig Kind.scVector Space.vmem Cert.KernelIdeal.S32x512 EltTy.f32)

/-! ## Where a task's columns lie -/

/-- Task (core `c`, subcore `s`) as a point of the grid. -/
def taskAt (c : Fin 2) (s : Fin 16) : grid1.Coords :=
  fun | 0 => c | 1 => s | ⟨_ + 2, h⟩ => absurd h (Nat.not_lt.2 (Nat.le_add_left _ _))

theorem off135_val : ∀ L : grid1.Coords, k1_off135 L 0 = 0 ∧ k1_off135 L 1 = 512 * (2 * (L 1).val + (L 0).val) := by decide +kernel
theorem off1_val (L : grid1.Coords) : k1_off1 L 0 = k1_off135 L 1 := rfl

theorem emb_oK (L : grid1.Coords) (y : S32x512.Idx) :
    (((oK L).view.emb y : S32x16384.Idx) 0).val = (y 0).val ∧ (((oK L).view.emb y : S32x16384.Idx) 1).val = k1_off135 L 1 + (y 1).val := by
  constructor
  · show k1_off135 L 0 + 1 * (y 0).val = _; rw [(off135_val L).1]; omega
  · show k1_off135 L 1 + 1 * (y 1).val = _; omega

theorem emb_iK (L : grid1.Coords) (y : S512.Idx) : (((iK L).view.emb y : S16384.Idx) 0).val = k1_off135 L 1 + (y 0).val := by
  show k1_off1 L 0 + 1 * (y 0).val = _; rw [off1_val]; omega

/-- What the task selects from a good table is good. -/
theorem out_ok (Good : Goodness F) (f : S25088x128.Idx → Elt F .f32) (hT : TableOK Good f) (mi : S16384.Idx → BitVec 32)
    (hpre : ∀ y, (mi y).toNat < 100000) (L : grid1.Coords) (g : S32x16384.Idx → Elt F .f32)
    (hg : ∀ y, g ((oK L).view.emb y) = selected f (tids (F := F) mi L) y) : OutOK Good mi (oK L).view.set g := by
  intro z hz
  obtain ⟨y, rfl⟩ : ∃ y, (oK L).view.emb y = z := by simpa [View.set] using hz
  have hid : tids (F := F) mi L (ix1 (n := 512) (y 1)) = mi (ix1 (n := 16384) (((oK L).view.emb y : S32x16384.Idx) 1)) :=
    congrArg mi (funext fun a => Fin.ext (by
      match a with
      | 0 => exact (emb_iK L _).trans (emb_oK L y).2.symm))
  have hm := hpre (ix1 (n := 16384) (((oK L).view.emb y : S32x16384.Idx) 1))
  have hy : (y 0).val < 32 := (y 0).isLt
  rw [hg]
  unfold selected picked
  refine hT _ _ _ hm ?_ ?_
  · show (tids (F := F) mi L (ix1 (n := 512) (y 1))).toNat % 25088 = _
    rw [hid]
  · show (32 * ((tids (F := F) mi L (ix1 (n := 512) (y 1))).toNat / 25088) + (y 0).val) % 128 = _
    rw [hid, (emb_oK L y).1]
    omega

/-! ## What the handshakes carry -/

variable (m : (ℓ : Loc nD τ sig) → Buf (Elt F) ℓ) (Good : Goodness F)

/-- The share of the ids, and of the table, task (`c`, `s`) is handed. -/
def shareAt (q : PosShare TreeShare) (c : Fin 2) (s : Fin 16) : PosShare TreeShare := pieceOf q (2 * 16) (by decide) (finProdFinEquiv (c, s))

/-- What a task is handed: its share of the ids, its share of a good table, its columns of the result. -/
def goAt (d : Dev nD) (c : Fin 2) (s : Fin 16) : sProp 𝕄 :=
  iprop((iLoc d ↦{shareAt (fullShare : PosShare TreeShare).right c s} m (iLoc d))
    ∗ (∃ f, ⌜TableOK Good f⌝ ∗ tLoc d ↦{shareAt fullShare c s} f)
    ∗ oLoc d ↦[(oK (taskAt c s)).view.set]{fullShare} m (oLoc d))

/-- What it brings back: its columns, every word good. -/
def tdAt (d : Dev nD) (c : Fin 2) (s : Fin 16) : sProp 𝕄 :=
  iprop(∃ g, ⌜OutOK Good (m (iLoc d)) (oK (taskAt c s)).view.set g⌝ ∗ oLoc d ↦[(oK (taskAt c s)).view.set]{fullShare} g)

instance goAt_storable (d : Dev nD) (c : Fin 2) (s : Fin 16) : BI.Storable (upEmb : UEmb _ 𝕄) (goAt m Good d c s) := by
  unfold goAt; infer_instance
instance tdAt_storable (d : Dev nD) (c : Fin 2) (s : Fin 16) : BI.Storable (upEmb : UEmb _ 𝕄) (tdAt m Good d c s) := by
  unfold tdAt; infer_instance

/-- A SparseCore takes its tasks' parts and brings theirs back. -/
def P : (K (F := F)).Pay (nD := nD) (Val := Elt F) (Name := ℕ) (U := UU F) where
  st := fun q d c => match q with
    | 0 => bigSep Finset.univ fun i : Fin ((K (F := F)).nSub 0) => goAt m Good d (Fin.cast nCore_zero c) (Fin.cast nSub_zero i)
  dn := fun q d c => match q with
    | 0 => bigSep Finset.univ fun i : Fin ((K (F := F)).nSub 0) => tdAt m Good d (Fin.cast nCore_zero c) (Fin.cast nSub_zero i)
  go := fun q d c i => match q with | 0 => goAt m Good d (Fin.cast nCore_zero c) (Fin.cast nSub_zero i)
  td := fun q d c i => match q with | 0 => tdAt m Good d (Fin.cast nCore_zero c) (Fin.cast nSub_zero i)
  x := fun _ _ => iprop(∃ ι, wmInv wmE ι)

instance P_storable : (P m Good).IsStorable where
  st q d c := match q with
    | 0 => (inferInstance : BI.Storable (upEmb : UEmb _ 𝕄)
      (bigSep Finset.univ fun i : Fin ((K (F := F)).nSub 0) => goAt m Good d (Fin.cast nCore_zero c) (Fin.cast nSub_zero i)))
  dn q d c := match q with
    | 0 => (inferInstance : BI.Storable (upEmb : UEmb _ 𝕄)
      (bigSep Finset.univ fun i : Fin ((K (F := F)).nSub 0) => tdAt m Good d (Fin.cast nCore_zero c) (Fin.cast nSub_zero i)))
  go q d c i := match q with
    | 0 => (inferInstance : BI.Storable (upEmb : UEmb _ 𝕄) (goAt m Good d (Fin.cast nCore_zero c) (Fin.cast nSub_zero i)))
  td q d c i := match q with
    | 0 => (inferInstance : BI.Storable (upEmb : UEmb _ 𝕄) (tdAt m Good d (Fin.cast nCore_zero c) (Fin.cast nSub_zero i)))

/-- What the proof asks of the launch memory: every id is a row of the vocabulary. -/
def PreOK : Prop := ∀ (d : Dev nD) (j : S16384.Idx), ((m (iLoc d) : S16384.Idx → BitVec 32) j).toNat < 100000

/-! ## The subcore's own buffers and semaphores -/

section Own

variable (d : Dev nD) (c : Fin τ.nSC) (i : Fin τ.nSub)

/-- A scoped semaphore of the subcore. -/
theorem own_sem (s : DmaSem sig) (h : (SemLoc.dma s : SemLoc sig).isScoped .scVector = true) :
    ((V d c i, SemLoc.dma s) : GSem nD τ sig) ∈ ownCells (V d c i) := mem_ownCells.mpr ⟨rfl, h⟩

/-- The cells still to be taken. -/
def restCells : Finset (GSem nD τ sig) :=
  ((((((ownCells (V d c i)).erase (V d c i, .dma cc1_scratch4.sem)).erase (V d c i, .dma cc1_scratch5.sem)).erase (V d c i, .dma cc1_scratch6.sem)).erase
    (V d c i, .dma cc1_scratch7.sem)).erase (V d c i, .dma cc1_scoped0.sem)).erase (V d c i, .dma cc1_scoped1.sem)

theorem ne_cell {s s' : SemLoc sig} (h : s ≠ s') : ((V d c i, s) : GSem nD τ sig) ≠ (V d c i, s') := fun e => h (congrArg Prod.snd e)

theorem ownSems0_V : (ownSems0 (V d c i) : sProp 𝕄)
    = iprop(semVal (V d c i, .dma cc1_scratch4.sem) 0 ∗ semVal (V d c i, .dma cc1_scratch5.sem) 0 ∗ semVal (V d c i, .dma cc1_scratch6.sem) 0
        ∗ semVal (V d c i, .dma cc1_scratch7.sem) 0 ∗ semVal (V d c i, .dma cc1_scoped0.sem) 0 ∗ semVal (V d c i, .dma cc1_scoped1.sem) 0
        ∗ bigSep (restCells d c i) fun g => semVal g 0) := by
  unfold SparseCore.Cfg.ownSems0 restCells
  rw [SparseCore.bigSep_erase' (own_sem d c i cc1_scratch4.sem (by decide)),
    SparseCore.bigSep_erase' (i := (V d c i, .dma cc1_scratch5.sem)) (by
      simp only [Finset.mem_erase]; exact ⟨ne_cell d c i (by decide), own_sem d c i _ (by decide)⟩),
    SparseCore.bigSep_erase' (i := (V d c i, .dma cc1_scratch6.sem)) (by
      simp only [Finset.mem_erase]; exact ⟨ne_cell d c i (by decide), ne_cell d c i (by decide), own_sem d c i _ (by decide)⟩),
    SparseCore.bigSep_erase' (i := (V d c i, .dma cc1_scratch7.sem)) (by
      simp only [Finset.mem_erase]
      exact ⟨ne_cell d c i (by decide), ne_cell d c i (by decide), ne_cell d c i (by decide), own_sem d c i _ (by decide)⟩),
    SparseCore.bigSep_erase' (i := (V d c i, .dma cc1_scoped0.sem)) (by
      simp only [Finset.mem_erase]
      exact ⟨ne_cell d c i (by decide), ne_cell d c i (by decide), ne_cell d c i (by decide), ne_cell d c i (by decide), own_sem d c i _ (by decide)⟩),
    SparseCore.bigSep_erase' (i := (V d c i, .dma cc1_scoped1.sem)) (by
      simp only [Finset.mem_erase]
      exact ⟨ne_cell d c i (by decide), ne_cell d c i (by decide), ne_cell d c i (by decide), ne_cell d c i (by decide), ne_cell d c i (by decide),
        own_sem d c i _ (by decide)⟩)]

/-- A buffer of the subcore. -/
theorem own_ref (b : Ref sig .scVector) (h : ((Proc.scVector c i).devRef b : DevRef τ sig).owner = .proc (.scVector c i)) :
    ((Proc.scVector c i).devRef b : DevRef τ sig) ∈ ownRefs (τ := τ) (sig := sig) (.scVector c i) :=
  SparseCore.Cfg.mem_ownRefs_of_owner (p := Proc.scVector c i) h

theorem ne_ref {b b' : Ref sig .scVector} (h : b ≠ b') : ((Proc.scVector c i).devRef b : DevRef τ sig) ≠ (Proc.scVector c i).devRef b' :=
  fun e => h (Proc.devRef_injective _ e)

/-- The buffers still to be taken. -/
def restRefs : Finset (DevRef τ sig) :=
  ((((ownRefs (τ := τ) (sig := sig) (.scVector c i)).erase ((Proc.scVector c i).devRef cc1_scratch0)).erase ((Proc.scVector c i).devRef cc1_scratch1)).erase
    ((Proc.scVector c i).devRef cc1_scratch2)).erase ((Proc.scVector c i).devRef cc1_scratch3)

theorem ownBufs_V : (ownBufs (V d c i) : sProp 𝕄)
    = iprop((∃ f, (sV).view.loc (V d c i) ↦{fullShare} f) ∗ (∃ f, (nV).view.loc (V d c i) ↦{fullShare} f)
        ∗ (∃ f, (rV).view.loc (V d c i) ↦{fullShare} f) ∗ (∃ f, (xV).view.loc (V d c i) ↦{fullShare} f)
        ∗ bigSep (restRefs c i) fun b => iprop(∃ f, ((d, b) : Loc nD τ sig) ↦{fullShare} f)) := by
  unfold SparseCore.Cfg.ownBufs restRefs
  refine (SparseCore.bigSep_erase' (own_ref c i cc1_scratch0 rfl)).trans ?_
  rw [SparseCore.bigSep_erase' (i := (Proc.scVector c i).devRef cc1_scratch1) (by
      simp only [Finset.mem_erase]; exact ⟨ne_ref c i (by decide), own_ref c i _ rfl⟩),
    SparseCore.bigSep_erase' (i := (Proc.scVector c i).devRef cc1_scratch2) (by
      simp only [Finset.mem_erase]; exact ⟨ne_ref c i (by decide), ne_ref c i (by decide), own_ref c i _ rfl⟩),
    SparseCore.bigSep_erase' (i := (Proc.scVector c i).devRef cc1_scratch3) (by
      simp only [Finset.mem_erase]; exact ⟨ne_ref c i (by decide), ne_ref c i (by decide), ne_ref c i (by decide), own_ref c i _ rfl⟩)]

end Own

/-! ## The task -/

variable [FloatOps F] [∀ e, Nonempty (Elt F e)]

theorem tile_body (hF : (K (F := F)).Facts) (hpre : PreOK m) (d : Dev nD) (c : Fin 2) (s : Fin 16) (L : grid1.Coords) (hL : L = taskAt c s)
    (O : CellTallies nD τ sig (HIx 1)) (W : Waits sig (HIx 1)) (hO : ∀ g, O g none = 0) :
    iprop(levAts (K (F := F)).L (K (F := F)).lev ∗ (∃ ι, wmInv wmE ι) ∗ goAt m Good d c s
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L tV (Memref.isWhole_whole _) iV (Memref.isWhole_whole _) oV (Memref.isWhole_whole _)
            sV (Memref.isWhole_whole _) nV (Memref.isWhole_whole _) rV (Memref.isWhole_whole _) xV (Memref.isWhole_whole _)
            cc1_scratch4 cc1_scratch5 cc1_scratch6 cc1_scratch7 cc1_scoped0 cc1_scoped1)
          fun _ => iprop(tdAt m Good d c s
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goAt tdAt
  rw [← hL]
  iintro ⟨#Hlv, ⟨%ιwm, #Hwm⟩, ⟨Hi, ⟨%f, %hT, Ht⟩, Ho⟩, ⟨⟨%fs, Hs⟩, ⟨%fn, Hn⟩, ⟨%fr, Hr⟩, ⟨%fx, Hx⟩, Hbufs⟩, ⟨H4, H5, H6, H7, HA, HB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (pointsTo_split_subset (ℓ := iLoc d) (I := (iK L).view.set) (Finset.subset_univ _)).1 $$ Hi
  icases Hi with ⟨Hi, -⟩
  ihave Ht := (pointsTo_split_subset (ℓ := tLoc d) (I := (taV).view.set) (Finset.subset_univ _)).1 $$ Ht
  icases Ht with ⟨Ht, -⟩
  iapply wp_wand $$ [Hi Ht Ho Hs Hn Hr Hx H4 H5 H6 H7 HA HB HO]
  · iapply (tile_core d L (ιwm := ιwm) (m (iLoc d)) (hpre d) f fs fn fr fx (m (oLoc d)) _ _ O W)
    isplitr; · iexact Hmw
    isplitr; · iexact Hwm
    isplitl [Hi]; · iexact Hi
    isplitl [Ht]; · iexact Ht
    isplitl [Ho]; · iexact Ho
    isplitl [Hs]; · iexact Hs
    isplitl [Hn]; · iexact Hn
    isplitl [Hr]; · iexact Hr
    isplitl [Hx]; · iexact Hx
    isplitl [H4]; · iexact H4
    isplitl [H5]; · iexact H5
    isplitl [H6]; · iexact H6
    isplitl [H7]; · iexact H7
    isplitl [HA]; · iexact HA
    isplitl [HB]; · iexact HB
    iexact HO
  iintro %_ ⟨⟨%g, %hg, Ho⟩, ⟨Hs, Hn, Hr, Hx⟩, ⟨H4, H5, H6, H7, HA, HB⟩, HO⟩
  isplitl [Ho]
  · iexists g
    isplitr; · ipureintro; exact out_ok Good f hT (m (iLoc d)) (hpre d) L g hg
    iexact Ho
  isplitl [Hs Hn Hr Hx Hbufs]
  · isplitl [Hs]; · iexact Hs
    isplitl [Hn]; · iexact Hn
    isplitl [Hr]; · iexact Hr
    isplitl [Hx]; · iexact Hx
    iexact Hbufs
  isplitl [H4 H5 H6 H7 HA HB Hsems]
  · isplitl [H4]; · iexact H4
    isplitl [H5]; · iexact H5
    isplitl [H6]; · iexact H6
    isplitl [H7]; · iexact H7
    isplitl [HA]; · iexact HA
    isplitl [HB]; · iexact HB
    iexact Hsems
  iexact HO

/-- The program the body table names for a subcore of the call. -/
theorem defs₀_vector (c : Fin τ.nSC) (s : Fin τ.nSub) :
    defs₀ (F := F) (.scVector c s) 1 ()
      = SparseCore.onTile hcore1 hsub1 (fun c s => cc1_gather_k (taskAt c s)
          tV (Memref.isWhole_whole _) iV (Memref.isWhole_whole _) oV (Memref.isWhole_whole _)
          sV (Memref.isWhole_whole _) nV (Memref.isWhole_whole _) rV (Memref.isWhole_whole _) xV (Memref.isWhole_whole _)
          cc1_scratch4 cc1_scratch5 cc1_scratch6 cc1_scratch7 cc1_scoped0 cc1_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m Good) v₀ 0 := by
  intro d c i O W hO _ _
  simp only [show (P m Good).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m Good hF hpre d (Fin.cast nCore_zero c) (Fin.cast nSub_zero i) (taskAt ⟨_, hci.1⟩ ⟨_, hci.2⟩) rfl O W hO).trans (wp_mono frame _ _ fun _ => obl_post)

omit [FloatOps F] [∀ e, Nonempty (Elt F e)] in
theorem vecSplit : (K (F := F)).VecSplit' (P m Good) 0 := by
  intro d c
  show (bigSep Finset.univ fun i : Fin ((K (F := F)).nSub 0) => goAt m Good d (Fin.cast nCore_zero c) (Fin.cast nSub_zero i))
    ⊢ |={Set.univ}=> iprop((bigSep Finset.univ fun i : Fin ((K (F := F)).nSub 0) => goAt m Good d (Fin.cast nCore_zero c) (Fin.cast nSub_zero i))
      ∗ ((bigSep Finset.univ fun i : Fin ((K (F := F)).nSub 0) => tdAt m Good d (Fin.cast nCore_zero c) (Fin.cast nSub_zero i))
        -∗ bigSep Finset.univ fun i : Fin ((K (F := F)).nSub 0) => tdAt m Good d (Fin.cast nCore_zero c) (Fin.cast nSub_zero i)))
  iintro H; imodintro
  isplitl [H]; · iexact H
  iintro H; iexact H

end Cert.Proof.Run
-- ==== Proof.Deal.lean ====
/-
  The call's operands over its tasks: the ids and the table dealt out in shares, the result in blocks of columns; and the
  blocks brought back, joined into one result whose every word is good.
-/
module

public import proofs.«01_k».proof.Proof.Task

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ (UU F) ℕ

local notation "oV" => (Memref.whole Cert.KernelIdeal.main_v4_scv : Memref Cert.KernelIdeal.sig Kind.scVector Space.hbm Cert.KernelIdeal.S32x16384 EltTy.f32)

/-! ## The blocks of columns -/

/-- The words of the result task `t` writes. -/
def blockOf (t : Fin 2 × Fin 16) : Finset S32x16384.Idx := (oK (taskAt t.1 t.2)).view.set

theorem mem_blockOf (t : Fin 2 × Fin 16) (z : S32x16384.Idx) :
    z ∈ blockOf t ↔ 512 * (2 * t.2.val + t.1.val) ≤ (z 1).val ∧ (z 1).val < 512 * (2 * t.2.val + t.1.val) + 512 := by
  have ho : k1_off135 (taskAt t.1 t.2) 1 = 512 * (2 * t.2.val + t.1.val) := (off135_val (taskAt t.1 t.2)).2
  constructor
  · intro hz
    obtain ⟨y, rfl⟩ : ∃ y, (oK (taskAt t.1 t.2)).view.emb y = z := by simpa [blockOf, View.set] using hz
    have h := (emb_oK (taskAt t.1 t.2) y).2
    have hy : (y 1).val < 512 := (y 1).isLt
    rw [ho] at h
    constructor <;> (rw [h]; omega)
  · intro hz
    have e : (oK (taskAt t.1 t.2)).view.emb (ix2 (n0 := 32) (n1 := 512) (z 0) ⟨(z 1).val - 512 * (2 * t.2.val + t.1.val), by omega⟩) = z := by
      funext a
      refine Fin.ext ?_
      match a with
      | 0 => exact (emb_oK (taskAt t.1 t.2) _).1
      | 1 =>
        refine (emb_oK (taskAt t.1 t.2) _).2.trans ?_
        rw [ho]
        show _ + ((z 1).val - _) = (z 1).val
        omega
    show z ∈ (oK (taskAt t.1 t.2)).view.set
    rw [← e]
    simp only [View.set, Finset.mem_map, Finset.mem_univ, true_and]
    exact ⟨_, rfl⟩

theorem blocks_disjoint : ∀ t ∈ (Finset.univ : Finset (Fin 2 × Fin 16)), ∀ t' ∈ (Finset.univ : Finset (Fin 2 × Fin 16)), t ≠ t' →
    Disjoint (blockOf t) (blockOf t') := by
  intro t _ t' _ hne
  rw [Finset.disjoint_left]
  intro z hz hz'
  rw [mem_blockOf] at hz hz'
  refine hne (Prod.ext (Fin.ext ?_) (Fin.ext ?_)) <;> omega

theorem blocks_cover : (Finset.univ : Finset (Fin 2 × Fin 16)).biUnion blockOf = Finset.univ := by
  refine Finset.eq_univ_of_forall fun z => Finset.mem_biUnion.mpr ?_
  have hz : (z 1).val < 16384 := (z 1).isLt
  refine ⟨(⟨(z 1).val / 512 % 2, by omega⟩, ⟨(z 1).val / 1024, by omega⟩), Finset.mem_univ _, ?_⟩
  rw [mem_blockOf]
  show 512 * (2 * ((z 1).val / 1024) + (z 1).val / 512 % 2) ≤ (z 1).val ∧ (z 1).val < 512 * (2 * ((z 1).val / 1024) + (z 1).val / 512 % 2) + 512
  clear hz
  omega

variable (m : (ℓ : Loc nD τ sig) → Buf (Elt F) ℓ) (Good : Goodness F)

/-! ## Dealt out -/

/-- An array held at share `q` is the tasks' shares of it. -/
theorem shares_eq (ℓ : Loc nD τ sig) (q : PosShare TreeShare) (f : Buf (Elt F) ℓ) :
    (ℓ ↦{q} f : sProp 𝕄) = bigSep Finset.univ fun t : Fin 2 × Fin 16 => ℓ ↦{shareAt q t.1 t.2} f := by
  rw [pointsTo_piecesOf (ℓ := ℓ) Finset.univ f (o := 2 * 16) (by decide) q, bigSep_univ_equiv (finProdFinEquiv (m := 2) (n := 16))]
  rfl

theorem go_intro (d : Dev nD) (f : Buf (Elt F) (tLoc d)) (hT : TableOK Good f) (t : Fin 2 × Fin 16) :
    iprop((iLoc d ↦{shareAt (fullShare : PosShare TreeShare).right t.1 t.2} m (iLoc d)) ∗ (tLoc d ↦{shareAt fullShare t.1 t.2} f)
      ∗ oLoc d ↦[blockOf t]{fullShare} m (oLoc d)) ⊢ goAt m Good d t.1 t.2 := by
  unfold goAt
  iintro ⟨Hi, Ht, Ho⟩
  isplitl [Hi]; · iexact Hi
  isplitl [Ht]
  · iexists f; isplitr; · ipureintro; exact hT
    iexact Ht
  iexact Ho

theorem blocks_eq (d : Dev nD) (f : Buf (Elt F) (oLoc d)) :
    (oLoc d ↦{fullShare} f : sProp 𝕄) = bigSep Finset.univ fun t : Fin 2 × Fin 16 => oLoc d ↦[blockOf t]{fullShare} f := by
  have h := pointsTo_biUnion (Ix := HIx 1) (Val := Elt F) (Name := ℕ) (U := UU F) (Lvl := ℕ) (ℓ := oLoc d) (q := fullShare) (f := f)
    (Finset.univ : Finset (Fin 2 × Fin 16)) blockOf blocks_disjoint
  rw [← h, blocks_cover]

theorem deal (d : Dev nD) (f : Buf (Elt F) (tLoc d)) (hT : TableOK Good f) :
    iprop((iLoc d ↦{(fullShare : PosShare TreeShare).right} m (iLoc d)) ∗ (tLoc d ↦{fullShare} f) ∗ oLoc d ↦{fullShare} m (oLoc d))
      ⊢ bigSep Finset.univ fun c : Fin ((K (F := F)).nCore 0) => (P m Good).st 0 d c := by
  rw [shares_eq (iLoc d), shares_eq (tLoc d), blocks_eq, ← bigSep_sep', ← bigSep_sep']
  refine (bigSep_mono fun t _ => go_intro m Good d f hT t).trans ?_
  rw [bigSep_univ_prod]
  exact BI.Entails.refl _

/-! ## Brought back -/

theorem collect [∀ e, Nonempty (Elt F e)] (d : Dev nD) :
    (bigSep Finset.univ fun c : Fin ((K (F := F)).nCore 0) => (P m Good).dn 0 d c)
      ⊢ iprop(∃ g, ⌜OutOK Good (m (iLoc d)) Finset.univ g⌝ ∗ oLoc d ↦{fullShare} g) := by
  show (bigSep Finset.univ fun c : Fin 2 => bigSep Finset.univ fun s : Fin 16 => tdAt m Good d c s) ⊢ (_ : sProp 𝕄)
  rw [← bigSep_univ_prod (fun t : Fin 2 × Fin 16 => tdAt m Good d t.1 t.2)]
  haveI : Nonempty (Buf (Elt F) (oLoc d)) := ⟨m (oLoc d)⟩
  refine (bigSep_exists_pi (Y := fun _ : Fin 2 × Fin 16 => Buf (Elt F) (oLoc d)) Finset.univ
    (fun t g => iprop(⌜OutOK Good (m (iLoc d)) (blockOf t) g⌝ ∗ oLoc d ↦[blockOf t]{fullShare} g))).trans ?_
  show _ ⊢ (_ : sProp 𝕄)
  iintro ⟨%fs, H⟩
  ihave H := (bigSep_pure_sep (Finset.univ : Finset (Fin 2 × Fin 16)) (fun t => OutOK Good (m (iLoc d)) (blockOf t) (fs t))
    (fun t => (oLoc d ↦[blockOf t]{fullShare} fs t : sProp 𝕄))) $$ H
  icases H with ⟨%hok, H⟩
  ihave H := (pointsTo_biUnion_join (ℓ := oLoc d) (q := fullShare) (Finset.univ : Finset (Fin 2 × Fin 16)) blockOf fs (m (oLoc d)) blocks_disjoint) $$ H
  icases H with ⟨%g, %hg, H⟩
  iexists g
  isplitr
  · ipureintro
    intro z _
    have hz : z ∈ (Finset.univ : Finset (Fin 2 × Fin 16)).biUnion blockOf := by rw [blocks_cover]; exact Finset.mem_univ _
    obtain ⟨t, ht, hzt⟩ := Finset.mem_biUnion.mp hz
    rw [hg t ht z hzt]
    exact hok t ht z hzt
  rw [blocks_cover]
  iexact H

end Cert.Proof.Run
-- ==== Proof.Launch.lean ====
/-
  The launch's ghost state — the handshakes' rounds, the pipeline's, write mode — made at once and dealt to the threads.
-/
module

public import proofs.«01_k».proof.Proof.Region
public import proofs.«01_k».proof.Proof.Deal

@[expose] public section

noncomputable section

namespace Cert.Proof.Run

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ (UU F) ℕ

variable (m : (ℓ : Loc nD τ sig) → Buf (Elt F) ℓ) (Good : Goodness F)

/-- The pipeline's part. -/
def pipe₀ : UP := initOf (Pipeline.cells (Pipeline.pin (pcfgs (F := F)) adm) pin_inj) (Pipeline.launchToks (Pipeline.pin (pcfgs (F := F)) adm) pin_inj)

/-- The launch element. -/
def u₀ : UU F := (initOf (K (F := F)).hsCells (K (F := F)).hsToks, (pipe₀ (F := F), (wm₀ nD τ sig (Elt F), (1 : Counters))))

/-- What a device's TensorCore is dealt: its pipeline's cells and tokens. -/
def G (d : Dev nD) : sProp 𝕄 :=
  iprop(Pipeline.cellsGhost (Pipeline.pin (pcfgs (F := F)) adm) EP 0 d ∗ Pipeline.toksInit (Pipeline.pin (pcfgs (F := F)) adm) EP 0 d)

theorem own_wm (w : UW F) : (BI.own ((Emb.inl.trans (Emb.inr.trans (embR (B := UP × (UW F × Counters))))) w) : sProp 𝕄) ⊢ ownU (wmE w) := BI.Entails.refl _

theorem own_parts : (ownU (u₀ (F := F)) : sProp 𝕄)
    ⊢ iprop(BI.own (EH (initOf (K (F := F)).hsCells (K (F := F)).hsToks)) ∗ BI.own (EP (pipe₀ (F := F))) ∗ ownU (wmE (wm₀ nD τ sig (Elt F)))) := by
  unfold u₀ EP
  iintro Hu
  ihave H := (ownU_pair (initOf (K (F := F)).hsCells (K (F := F)).hsToks) (pipe₀ (F := F), (wm₀ nD τ sig (Elt F), (1 : Counters)))) $$ Hu
  icases H with ⟨HH, H⟩
  isplitl [HH]; · iexact HH
  ihave H := (own_pair_emb embR (pipe₀ (F := F)) (wm₀ nD τ sig (Elt F), (1 : Counters))) $$ H
  icases H with ⟨HP, H⟩
  isplitl [HP]; · iexact HP
  ihave H := (own_pair_emb (Emb.inr.trans embR) (wm₀ nD τ sig (Elt F)) (1 : Counters)) $$ H
  icases H with ⟨H, -⟩
  iapply (own_wm _); iexact H

theorem ghost_dealt : (BI.own (EP (pipe₀ (F := F))) : sProp 𝕄) ⊢ iprop(|==> bigSep Finset.univ fun d : Dev nD => G (F := F) d) := by
  unfold pipe₀
  iintro H
  imod (Pipeline.fund_ghost (Pipeline.pin (pcfgs (F := F)) adm) EP pin_inj) $$ H with ⟨Hc, Ht⟩
  imodintro
  unfold G
  rw [bigSep_sep']
  ihave Hc := (Entails.of_eq (bigSep_congr (s := (Finset.univ : Finset (Dev nD)))
    fun _ _ => bigSep_univ_of_subsingleton (0 : Fin 1))) $$ Hc
  ihave Ht := (Entails.of_eq (bigSep_congr (s := (Finset.univ : Finset (Dev nD)))
    fun _ _ => bigSep_univ_of_subsingleton (0 : Fin 1))) $$ Ht
  isplitl [Hc] <;> iassumption

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m Good).x q thr) := by
  iintro Hu
  ihave H := own_parts $$ Hu
  icases H with ⟨HH, HP, HW⟩
  imod ghost_dealt $$ HP with HG
  imod (wmInv_alloc (emb := wmE) (Name := ℕ) (Lvl := ℕ) (Ix := HIx 1) (⟨m, fun _ => 0, fun _ => Classical.choice inferInstance⟩ : MemSt nD τ sig (Elt F)) (avoid := ∅)) $$ HW with ⟨%ι, -, #Hwm⟩
  imodintro
  isplitl [HH]; · iexact HH
  isplitl [HG]; · iexact HG
  iapply (bigSep_intro_persistent (R := (wmInv wmE ι : sProp 𝕄)) (Φ := fun thr : Thread nD τ => bigSep Finset.univ fun q : Fin 1 => (P m Good).x q thr)
    fun thr _ => by
      rw [bigSep_univ_of_subsingleton (0 : Fin 1)]
      show (wmInv wmE ι : sProp 𝕄) ⊢ iprop(∃ ι, wmInv wmE ι)
      iintro H; iexists ι; iexact H)
  iexact Hwm

end Cert.Proof.Run
-- ==== Proof.MainRun.lean ====
/-
  The program's run. On the TensorCore: the embedding table transposed and the two biases reshaped, the call that makes the
  packed table, the SparseCore call dealt out and gathered in, the result transposed. By the launch theorem every weakly fair
  run ends with the six arguments as they were, every semaphore at zero, and every word of the result good.
-/
module

public import proofs.«01_k».proof.Proof.Launch
public import Idealize.ShloMosaic.Lib.Pipeline.Value

@[expose] public section

noncomputable section

namespace Cert.Proof.Run

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ (UU F) ℕ

variable (m : (ℓ : Loc nD τ sig) → Buf (Elt F) ℓ) (ρ : Dev nD → PrngReg) (Good : Goodness F)

/-! ## The host operations -/

abbrev a1' : DevRef τ sig := Proc.devRef .tc (main_arg1 : Ref sig .tc)
abbrev a3' : DevRef τ sig := Proc.devRef .tc (main_arg3 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v4' : DevRef τ sig := Proc.devRef .tc (main_v4 : Ref sig .tc)
abbrev v5' : DevRef τ sig := Proc.devRef .tc (main_v5 : Ref sig .tc)

/-- The embedding table transposed. -/
def embT (x : (⟨S100000x64, .f32⟩ : BufTy).Contents (Elt F)) : (⟨S64x100000, .f32⟩ : BufTy).Contents (Elt F) :=
  transpose S64x100000 [1, 0] x transposes_S100000x64_S64x100000_1_0
/-- The result transposed. -/
def outT (x : (⟨S32x16384, .f32⟩ : BufTy).Contents (Elt F)) : (⟨S16384x32, .f32⟩ : BufTy).Contents (Elt F) :=
  transpose S16384x32 [1, 0] x transposes_S32x16384_S16384x32_1_0

abbrev op0 : HloOp τ sig (Elt F) :=
  StableHlo.unary main_arg1 main_v0 ((transpose S64x100000 [1, 0] · transposes_S100000x64_S64x100000_1_0) : (⟨S100000x64, .f32⟩ : BufTy).Contents (Elt F) → (⟨S64x100000, .f32⟩ : BufTy).Contents (Elt F))
abbrev op1 : HloOp τ sig (Elt F) := StableHlo.reshape main_arg3 main_v1 (rfl : (.f32 : EltTy) = .f32) shapeCasts_S128_S1x128
abbrev op2 : HloOp τ sig (Elt F) := StableHlo.reshape main_arg5 main_v2 (rfl : (.f32 : EltTy) = .f32) shapeCasts_S32_S1x32
abbrev op5 : HloOp τ sig (Elt F) :=
  StableHlo.unary main_v4 main_v5 ((transpose S16384x32 [1, 0] · transposes_S32x16384_S16384x32_1_0) : (⟨S32x16384, .f32⟩ : BufTy).Contents (Elt F) → (⟨S16384x32, .f32⟩ : BufTy).Contents (Elt F))

/-- The TensorCore's arrays. -/
abbrev ucRefs : Finset (DevRef τ sig) := (StableHlo.tcRefs τ sig).filter fun b => ¬ b.isScoped

def V0 (d : Dev nD) : Valuation τ sig (Elt F) := fun b => m (d, b)
def V1 (d : Dev nD) : Valuation τ sig (Elt F) := (op0 (F := F)).result (V0 m d)
def V2 (d : Dev nD) : Valuation τ sig (Elt F) := (op1 (F := F)).result (V1 m d)
def V3 (d : Dev nD) : Valuation τ sig (Elt F) := (op2 (F := F)).result (V2 m d)
/-- What the arrays hold when the first call starts. -/
def Vr (c : Dev nD) (b : Ref sig .tc) : Buf (Elt F) ((c : Thread nD τ).loc b) := V3 m c (Proc.devRef .tc b)

theorem V3_of (d : Dev nD) (b : DevRef τ sig) (h0 : b ∉ ({v0'} : Finset (DevRef τ sig))) (h1 : b ∉ ({v1'} : Finset (DevRef τ sig)))
    (h2 : b ∉ ({v2'} : Finset (DevRef τ sig))) : V3 m d b = m (d, b) := by
  unfold V3 V2 V1 V0
  rw [(op2 (F := F)).result_of_not_mem _ h2, (op1 (F := F)).result_of_not_mem _ h1, (op0 (F := F)).result_of_not_mem _ h0]

theorem Vr_v0 (d : Dev nD) : Vr m d main_v0 = embT (m ((SparseCore.T d).loc main_arg1)) := by
  unfold Vr V3 V2 V1
  rw [(op2 (F := F)).result_of_not_mem _ (show v0' ∉ ({v2'} : Finset (DevRef τ sig)) by decide),
    (op1 (F := F)).result_of_not_mem _ (show v0' ∉ ({v1'} : Finset (DevRef τ sig)) by decide)]
  exact StableHlo.unary_result _ _ _ _ _ _

theorem Vr_v1 (d : Dev nD) : Vr m d main_v1 = shapeCast S1x128 (m ((SparseCore.T d).loc main_arg3)) shapeCasts_S128_S1x128 := by
  unfold Vr V3 V2
  rw [(op2 (F := F)).result_of_not_mem _ (show v1' ∉ ({v2'} : Finset (DevRef τ sig)) by decide)]
  refine (StableHlo.reshape_result _ _ _ _ _ _ _).trans ?_
  unfold V1
  rw [(op0 (F := F)).result_of_not_mem _ (show a3' ∉ ({v0'} : Finset (DevRef τ sig)) by decide)]
  rfl

theorem Vr_v2 (d : Dev nD) : Vr m d main_v2 = shapeCast S1x32 (m ((SparseCore.T d).loc main_arg5)) shapeCasts_S32_S1x32 := by
  unfold Vr V3
  refine (StableHlo.reshape_result _ _ _ _ _ _ _).trans ?_
  unfold V2 V1
  rw [(op1 (F := F)).result_of_not_mem _ (show a5' ∉ ({v1'} : Finset (DevRef τ sig)) by decide),
    (op0 (F := F)).result_of_not_mem _ (show a5' ∉ ({v0'} : Finset (DevRef τ sig)) by decide)]
  rfl

theorem Vr_arg0 (d : Dev nD) : Vr m d main_arg0 = m (iLoc d) := V3_of m d _ (by decide) (by decide) (by decide)
theorem Vr_arg1 (d : Dev nD) : Vr m d main_arg1 = m ((SparseCore.T d).loc main_arg1) := V3_of m d _ (by decide) (by decide) (by decide)
theorem Vr_arg2 (d : Dev nD) : Vr m d main_arg2 = m ((SparseCore.T d).loc main_arg2) := V3_of m d _ (by decide) (by decide) (by decide)
theorem Vr_arg3 (d : Dev nD) : Vr m d main_arg3 = m ((SparseCore.T d).loc main_arg3) := V3_of m d _ (by decide) (by decide) (by decide)
theorem Vr_arg4 (d : Dev nD) : Vr m d main_arg4 = m ((SparseCore.T d).loc main_arg4) := V3_of m d _ (by decide) (by decide) (by decide)
theorem Vr_arg5 (d : Dev nD) : Vr m d main_arg5 = m ((SparseCore.T d).loc main_arg5) := V3_of m d _ (by decide) (by decide) (by decide)
theorem Vr_v4 (d : Dev nD) : Vr m d main_v4 = m (oLoc d) := V3_of m d _ (by decide) (by decide) (by decide)

theorem h0 : (op0 (F := F)).bufs ⊆ ucRefs := show ({a1', v0'} : Finset (DevRef τ sig)) ⊆ ucRefs by decide
theorem h1 : (op1 (F := F)).bufs ⊆ ucRefs := show ({a3', v1'} : Finset (DevRef τ sig)) ⊆ ucRefs by decide
theorem h2 : (op2 (F := F)).bufs ⊆ ucRefs := show ({a5', v2'} : Finset (DevRef τ sig)) ⊆ ucRefs by decide
theorem h5 : (op5 (F := F)).bufs ⊆ {v4', v5'} := show ({v4', v5'} : Finset (DevRef τ sig)) ⊆ {v4', v5'} by decide

omit [FloatOps F] [∀ e, Nonempty (Elt F e)] in
theorem unscoped_held (d : Dev nD) (W : Valuation τ sig (Elt F)) :
    (unscopedBufs d (fun b => W (Proc.devRef .tc b)) : sProp 𝕄) = held (SparseCore.T d) ucRefs W := by
  unfold unscopedBufs StableHlo.held ucRefs StableHlo.tcRefs
  rw [Finset.filter_map, bigSep_map]
  rfl

omit [FloatOps F] [∀ e, Nonempty (Elt F e)] in
theorem held_two (d : Dev nD) (W : Valuation τ sig (Elt F)) :
    (held (SparseCore.T d) {v4', v5'} W : sProp 𝕄) = iprop((oLoc d ↦{fullShare} W v4') ∗ (SparseCore.T d).loc main_v5 ↦{fullShare} W v5') := by
  unfold held
  rw [SparseCore.bigSep_insert' (by decide), bigSep_singleton]

/-! ## What the TensorCore leaves -/

/-- The transposed result is good, word by word. -/
def ResOK (ids : S16384.Idx → BitVec 32) (out : S16384x32.Idx → Elt F .f32) : Prop :=
  ∀ y, Good (ids (ix1 (n := 16384) (y 0))).toNat (y 1) (out y)

theorem res_ok (ids : S16384.Idx → BitVec 32) (g : S32x16384.Idx → Elt F .f32) (h : OutOK Good ids Finset.univ g) : ResOK Good ids (outT g) := by
  intro y
  have e := h (ix2 (n0 := 32) (n1 := 16384) (y 1) (y 0)) (Finset.mem_univ _)
  have e2 : outT g y = g (ix2 (n0 := 32) (n1 := 16384) (y 1) (y 0)) := by
    unfold outT
    exact transpose_apply _ _ _ _ _ fun b => by match b with | 0 => rfl | 1 => rfl
  rw [e2]; exact e

def FIN (d : Dev nD) : sProp 𝕄 :=
  iprop((iLoc d ↦{(fullShare : PosShare TreeShare).left} m (iLoc d)) ∗ ((SparseCore.T d).loc main_arg1 ↦{fullShare} m ((SparseCore.T d).loc main_arg1))
    ∗ (∃ q, (SparseCore.T d).loc main_arg2 ↦{q} m ((SparseCore.T d).loc main_arg2)) ∗ ((SparseCore.T d).loc main_arg3 ↦{fullShare} m ((SparseCore.T d).loc main_arg3))
    ∗ (∃ q, (SparseCore.T d).loc main_arg4 ↦{q} m ((SparseCore.T d).loc main_arg4)) ∗ ((SparseCore.T d).loc main_arg5 ↦{fullShare} m ((SparseCore.T d).loc main_arg5))
    ∗ ∃ out, ⌜ResOK Good (m (iLoc d)) out⌝ ∗ (SparseCore.T d).loc main_v5 ↦{fullShare} out)

/-- The core's debts out of its state, and back. -/
theorem debts_out (d : Dev nD) : ((K (F := F)).tcSt EH d 0 : sProp 𝕄) ⊢ iprop(lowOwes (F := F) d ∗ (lowOwes (F := F) d -∗ (K (F := F)).tcSt EH d 0)) := by
  unfold SparseCore.Cfg.tcSt lowOwes
  iintro ⟨HO, Hr⟩
  isplitl [HO]; · iexact HO
  iintro HO
  isplitl [HO]; · iexact HO
  iexact Hr

/-- The buffers after the first call, the ids split into the part kept and the part dealt out. -/
theorem left_split (d : Dev nD) : (leftBufs (Vr m) Good d : sProp 𝕄)
    ⊢ iprop(∃ f, ⌜TableOK Good f⌝ ∗ ((iLoc d ↦{(fullShare : PosShare TreeShare).right} m (iLoc d)) ∗ (tLoc d ↦{fullShare} f) ∗ oLoc d ↦{fullShare} m (oLoc d))
        ∗ ((SparseCore.T d).loc main_v5 ↦{fullShare} Vr m d main_v5)
        ∗ ((iLoc d ↦{(fullShare : PosShare TreeShare).left} m (iLoc d)) ∗ ((SparseCore.T d).loc main_arg1 ↦{fullShare} m ((SparseCore.T d).loc main_arg1))
          ∗ (∃ q, (SparseCore.T d).loc main_arg2 ↦{q} m ((SparseCore.T d).loc main_arg2)) ∗ ((SparseCore.T d).loc main_arg3 ↦{fullShare} m ((SparseCore.T d).loc main_arg3))
          ∗ (∃ q, (SparseCore.T d).loc main_arg4 ↦{q} m ((SparseCore.T d).loc main_arg4)) ∗ ((SparseCore.T d).loc main_arg5 ↦{fullShare} m ((SparseCore.T d).loc main_arg5)))) := by
  unfold leftBufs
  rw [unscopedRest0_eq, Vr_arg0, Vr_arg1, Vr_arg2, Vr_arg3, Vr_arg4, Vr_arg5, Vr_v4]
  iintro ⟨H2, H4, ⟨%f, %hf, Ht⟩, Hi, H1, H3, H5, Ho, Hv⟩
  ihave Hi := (pointsTo_share (ℓ := iLoc d) (f := m (iLoc d)) (I := Finset.univ) (PosShare.mem_left_op_right (fullShare : PosShare TreeShare))).1 $$ Hi
  icases Hi with ⟨Hl, Hr⟩
  iexists f
  isplitr; · ipureintro; exact hf
  isplitl [Hr Ht Ho]
  · isplitl [Hr]; · iexact Hr
    isplitl [Ht]; · iexact Ht
    iexact Ho
  isplitl [Hv]; · iexact Hv
  isplitl [Hl]; · iexact Hl
  isplitl [H1]; · iexact H1
  isplitl [H2]; · iexact H2
  isplitl [H3]; · iexact H3
  isplitl [H4]; · iexact H4
  iexact H5

/-- After the second call and before the last operation. -/
def V4 (d : Dev nD) (g : Buf (Elt F) (oLoc d)) : Valuation τ sig (Elt F) := Function.update (V3 m d) v4' g

theorem V4_v4 (d : Dev nD) (g : Buf (Elt F) (oLoc d)) : V4 m d g v4' = g := Function.update_self _ _ _
theorem V4_v5 (d : Dev nD) (g : Buf (Elt F) (oLoc d)) : V4 m d g v5' = Vr m d main_v5 :=
  Function.update_of_ne (show v5' ≠ v4' by decide) _ _
theorem V5_v5 (d : Dev nD) (g : Buf (Elt F) (oLoc d)) : (op5 (F := F)).result (V4 m d g) v5' = outT g :=
  (StableHlo.unary_result _ _ _ _ _ _).trans (congrArg outT (V4_v4 m d g))

theorem hmain (hP : ∀ c, PayOK (Vr m) Good c) (κ : GSem nD τ sig → ℕ) (d : Dev nD) :
    iprop((K (F := F)).ctx EH (P m Good) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m Good d ∗ (K (F := F)).tcEnd d) := by
  unfold SparseCore.Cfg.tcRes SparseCore.Cfg.tcEnd
  rw [show (unscopedBufs d (fun b => m ((SparseCore.T d).loc b)) : sProp 𝕄) = held (SparseCore.T d) ucRefs (V0 m d) from unscoped_held d (V0 m d)]
  simp only [main, wp_bind, wp_pure]
  iintro ⟨#Hctx, Hst, ⟨Hb, Hheld, Hts, -⟩, HG⟩
  iapply (wp_hlo_within 𝒱 (SparseCore.T d) none Set.univ (op := op0) (S := ucRefs) h0 (V := V0 m d)) $$ [Hb Hheld]
  · isplitl [Hb] <;> iassumption
  iintro ⟨Hb, Hheld⟩
  rw [wp_ret]; imodintro
  iapply (wp_hlo_within 𝒱 (SparseCore.T d) none Set.univ (op := op1) (S := ucRefs) h1 (V := V1 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := ucRefs) h2 (V := V2 m d)) $$ [Hb Hheld]
  · isplitl [Hb]; · iexact Hb
    iexact Hheld
  iintro ⟨Hb, Hheld⟩
  rw [wp_ret]; imodintro
  -- the call that makes the packed table
  ihave Hub := (show (held (SparseCore.T d) ucRefs ((op2 (F := F)).result (V2 m d)) : sProp 𝕄) ⊢ unscopedBufs d (Vr m d) from
    Entails.of_eq (unscoped_held d (V3 m d)).symm) $$ Hheld
  ihave Hlv := (SparseCore.Cfg.ctx_levAts κ) $$ Hctx
  ihave Hst := (debts_out d) $$ Hst
  icases Hst with ⟨HO, Hst⟩
  unfold G
  icases HG with ⟨HGc, HGt⟩
  iapply (wp_call (Vr m) Good hP d _)
  isplitr [Hb Hub HO Hlv HGc HGt]
  swap
  · isplitl [Hb]; · iexact Hb
    isplitl [Hub HO]
    · isplitl [Hub] <;> iassumption
    isplitl [Hlv]; · iexact Hlv
    isplitl [HGc] <;> iassumption
  iintro ⟨Hb, Hleft, HO⟩
  ispecialize Hst $$ HO
  ihave Hleft := (left_split m Good d) $$ Hleft
  icases Hleft with ⟨%f, %hT, Hgo, Hv5, Hkeep⟩
  -- the SparseCore call
  ihave Hgo := (deal m Good d f hT) $$ Hgo
  iapply ((K (F := F)).wp_run (D (F := F)) 𝒱 (EH := EH) (P := P m Good) κ d 0) $$ [Hst Hgo Hb Hts Hv5 Hkeep]
  isplitr; · iexact Hctx
  isplitl [Hst]; · iexact Hst
  isplitl [Hgo]; · iexact Hgo
  iintro ⟨Hst, Hdn⟩
  ihave Hdn := (collect m Good d) $$ Hdn
  icases Hdn with ⟨%g, %hg, Ho⟩
  -- the last transpose
  iapply (wp_hlo_within 𝒱 (SparseCore.T d) none Set.univ (op := op5) (S := {v4', v5'}) h5 (V := V4 m d g)) $$ [Hb Ho Hv5]
  · isplitl [Hb]; · iexact Hb
    rw [held_two, V4_v4, V4_v5]
    isplitl [Ho] <;> iassumption
  iintro ⟨Hb, Hheld⟩
  ihave Hheld := (Entails.of_eq (held_two d ((op5 (F := F)).result (V4 m d g)))) $$ Hheld
  icases Hheld with ⟨-, Hv5⟩
  rw [V5_v5]
  rw [wp_ret]; imodintro; imodintro
  isplitl [Hst]; · iexact Hst
  isplitr [Hb Hts]
  · unfold FIN
    icases Hkeep with ⟨Hi, H1, H2, H3, H4, H5⟩
    isplitl [Hi]; · iexact Hi
    isplitl [H1]; · iexact H1
    isplitl [H2]; · iexact H2
    isplitl [H3]; · iexact H3
    isplitl [H4]; · iexact H4
    isplitl [H5]; · iexact H5
    iexists (outT g)
    isplitr; · ipureintro; exact res_ok Good (m (iLoc d)) g hg
    iexact Hv5
  isplitl [Hb] <;> iassumption

/-! ## The run -/

/-- What is read of device `d`'s memory at the end. -/
def fin (d : Dev nD) (m' : (ℓ : Loc nD τ sig) → Buf (Elt F) ℓ) : Prop :=
  (m' (iLoc d) = m (iLoc d) ∧ m' ((SparseCore.T d).loc main_arg1) = m ((SparseCore.T d).loc main_arg1)
    ∧ m' ((SparseCore.T d).loc main_arg2) = m ((SparseCore.T d).loc main_arg2) ∧ m' ((SparseCore.T d).loc main_arg3) = m ((SparseCore.T d).loc main_arg3)
    ∧ m' ((SparseCore.T d).loc main_arg4) = m ((SparseCore.T d).loc main_arg4) ∧ m' ((SparseCore.T d).loc main_arg5) = m ((SparseCore.T d).loc main_arg5))
  ∧ ResOK Good (m (iLoc d)) (m' ((SparseCore.T d).loc main_v5))

def fq (d : Dev nD) (s' : Phys nD τ sig (Elt F)) : Prop := fin m Good d s'.mem.mem

omit [FloatOps F] [∀ e, Nonempty (Elt F e)] in
/-- An array held at any share is what the memory holds. -/
theorem agree (s' : Phys nD τ sig (Elt F)) (ℓ : Loc nD τ sig) (q : PosShare TreeShare) (f : Buf (Elt F) ℓ) :
    iprop(SI s' ∗ ℓ ↦{q} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := q) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m Good d ∗ SI s') ⊢ (⌜fq m Good d s'⌝ : sProp 𝕄) := by
  unfold FIN
  iintro ⟨⟨H0, H1, ⟨%q2, H2⟩, H3, ⟨%q4, H4⟩, H5, %out, %hout, Hv⟩, HSI⟩
  ihave H := (agree s' (iLoc d) _ _) $$ [HSI H0]
  · isplitl [HSI] <;> iassumption
  icases H with ⟨%e0, HSI⟩
  ihave H := (agree s' ((SparseCore.T d).loc main_arg1) _ _) $$ [HSI H1]
  · isplitl [HSI] <;> iassumption
  icases H with ⟨%e1, HSI⟩
  ihave H := (agree s' ((SparseCore.T d).loc main_arg2) _ _) $$ [HSI H2]
  · isplitl [HSI] <;> iassumption
  icases H with ⟨%e2, HSI⟩
  ihave H := (agree s' ((SparseCore.T d).loc main_arg3) _ _) $$ [HSI H3]
  · isplitl [HSI] <;> iassumption
  icases H with ⟨%e3, HSI⟩
  ihave H := (agree s' ((SparseCore.T d).loc main_arg4) _ _) $$ [HSI H4]
  · isplitl [HSI] <;> iassumption
  icases H with ⟨%e4, HSI⟩
  ihave H := (agree s' ((SparseCore.T d).loc main_arg5) _ _) $$ [HSI H5]
  · isplitl [HSI] <;> iassumption
  icases H with ⟨%e5, HSI⟩
  ihave H := (agree s' ((SparseCore.T d).loc main_v5) _ _) $$ [HSI Hv]
  · isplitl [HSI] <;> iassumption
  icases H with ⟨%e6, -⟩
  ipureintro
  exact ⟨⟨e0, e1, e2, e3, e4, e5⟩, by rw [e6]; exact hout⟩

def QC : PUnit × MemSt nD τ sig (Elt F) → Prop := fun r => (∀ c : Dev nD, fin m Good c r.2.mem) ∧ r.2.sem = fun _ => 0

theorem run_main (hpre : PreOK m) (hP : ∀ c, PayOK (Vr m) Good c) :
    θ_run (Cert.KernelIdeal.defs (F := F)) (Cert.KernelIdeal.threads (F := F)) ⟨m, fun _ => 0, ρ⟩ (QC m Good) :=
  SparseCore.Cfg.θ_run_sc_quiescent (K := K (F := F)) (D := D (F := F)) (𝒱 := 𝒱) (EH := EH) (P := P m Good) (A := ∅) facts v₀
    (fun q hq => match q with | 0 => nomatch hq)
    (fun q _ => match q with | 0 => tileObl m Good facts hpre)
    (fun q _ => match q with | 0 => SparseCore.Cfg.VecSplit.of_plain (vecSplit m Good))
    m ρ main (G (F := F)) (FIN m Good) (u₀ (F := F)) (sep_elim_left.trans (hu₀ m Good)) (hmain m ρ Good hP) (fq m Good) (hfin m Good) (QC m Good) (fun _ h hz => ⟨h, hz⟩)

end Cert.Proof.Run
-- ==== Proof.Same.lean ====
/-
  The kernel as printed and the kernel as read at the extended reals are one text.
-/
module

public import proofs.«01_k».proof.Defs
public import proofs.«01_k».proof.Proof.Gen.Kernel
public import proofs.«01_k».proof.Proof.Gen.KernelIdeal

@[expose] public section

noncomputable section

namespace Cert.Proof

open Idealize.ShloMosaic

variable {F : FTy → Type} [FloatOps F]

theorem same_sig : Cert.Kernel.sig = Cert.KernelIdeal.sig := rfl

set_option maxRecDepth 100000 in
set_option maxHeartbeats 4000000 in
theorem same_body : @Cert.Kernel.cc1_gather_k F Cert.Kernel.Gen.facts = @Cert.KernelIdeal.cc1_gather_k F Cert.KernelIdeal.Gen.facts := rfl

set_option maxRecDepth 100000 in
set_option maxHeartbeats 4000000 in
theorem same_table : @Cert.Kernel.cc0__precompute_body F _ Cert.Kernel.Gen.facts = @Cert.KernelIdeal.cc0__precompute_body F _ Cert.KernelIdeal.Gen.facts := rfl

set_option maxRecDepth 100000 in
set_option maxHeartbeats 4000000 in
theorem same_defs₀ : @Cert.Kernel.defs₀ F _ Cert.Kernel.Gen.facts = @Cert.KernelIdeal.defs₀ F _ Cert.KernelIdeal.Gen.facts := by
  funext p ℓ a
  match p, ℓ, a with
  | .tc, 0, (_, _) => rfl
  | .tc, 1, _ => rfl
  | .scScalar _, 0, _ => rfl
  | .scScalar _, 1, _ => rfl
  | .scVector _ _, 0, _ => rfl
  | .scVector _ _, 1, _ => rfl

set_option maxRecDepth 100000 in
set_option maxHeartbeats 4000000 in
theorem same_defs : @Cert.Kernel.defs F _ Cert.Kernel.Gen.facts = @Cert.KernelIdeal.defs F _ Cert.KernelIdeal.Gen.facts := by
  unfold Cert.Kernel.defs Cert.KernelIdeal.defs
  rw [same_defs₀]
  rfl

set_option maxRecDepth 100000 in
set_option maxHeartbeats 4000000 in
theorem same_main : Cert.Kernel.main (F := F) = Cert.KernelIdeal.main (F := F) := rfl

set_option maxRecDepth 100000 in
set_option maxHeartbeats 4000000 in
theorem same_threads : Cert.Kernel.threads (F := F) = Cert.KernelIdeal.threads (F := F) := by
  unfold Cert.Kernel.threads Cert.KernelIdeal.threads
  rw [same_main]
  rfl

end Cert.Proof
-- ==== Proof.Frames.lean ====
/-
  The runs without values: what the precondition says of the ids, and the kernel's two frames (for the program as printed,
  and for the program read at the extended reals), both read off the one run `Run.run_main` with nothing asked of the
  result.
-/
module

public import proofs.«01_k».proof.Defs
public import proofs.«01_k».proof.Proof.Gen.Pre_in_vocab
public import proofs.«01_k».proof.Proof.Gen.ReferenceIdeal.Run
public import proofs.«01_k».proof.Proof.MainRun
public import proofs.«01_k».proof.Proof.Same
public import Idealize.ShloMosaic.Lib.ReduceAll

@[expose] public section

noncomputable section

namespace Cert.Proof

open Idealize.ShloMosaic Idealize.SL.Sem

/-- The bits of two tests joined. -/
theorem andi_ofBool (p q : Bool) : IntOp.andi (BitVec.ofBool p) (BitVec.ofBool q) = BitVec.ofBool (p && q) := by
  cases p <;> cases q <;> rfl

/-- A test's bit is one exactly when the test holds. -/
theorem ofBool_eq_one (p : Bool) : (BitVec.ofBool p = 1#1) ↔ p = true := by
  cases p <;> decide

/-- A word that is at least zero and below 100000 as a signed number is below 100000 as a natural one. -/
theorem toNat_lt_of_bits (v : BitVec 32)
    (e : IntOp.andi (IntOp.cmpi .sge v 0#32) (IntOp.cmpi .slt v 100000#32) = 1#1) : v.toNat < 100000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, read at one id. -/
theorem id_lt {F : FTy → Type} [FloatOps F] (a0 : IVec ⟨1, ![16384]⟩ 32) (a1 a2 a3 a4 a5)
    (h : Cert.Pre_in_vocab.fn (F := F) a0 a1 a2 a3 a4 a5 = fun _ => 1#1) (j : Shape.Idx ⟨1, ![16384]⟩) :
    (a0 j).toNat < 100000 := by
  have : Subsingleton (Shape.Idx Cert.Pre_in_vocab.S_) := ⟨fun a b => funext fun i => i.elim0⟩
  exact toNat_lt_of_bits _ (Host.reduce_andi_all _ _ _ _ _ (congrFun h (fun i => i.elim0)) j)

/-- Under the precondition every id names a row of the table. -/
theorem ok_of_pre {m : (ℓ : Loc Cert.KernelIdeal.nD Cert.KernelIdeal.τ Cert.KernelIdeal.sig) → Buf (Elt Ideal) ℓ}
    (h : Pre_KernelIdeal m) : Run.PreOK m := fun d j => id_lt _ _ _ _ _ _ (h d) j

/-- The same, of the program as printed. -/
theorem ok_of_pre_bits {m : (ℓ : Loc Cert.KernelIdeal.nD Cert.KernelIdeal.τ Cert.KernelIdeal.sig) → Buf (Elt Bits) ℓ}
    (h : Pre_Kernel m) : Run.PreOK m := fun d j => id_lt _ _ _ _ _ _ (h d) j

/-- The run with nothing asked of the values: the arguments unchanged, the counters back at zero. -/
theorem frame_run {F : FTy → Type} [FloatOps F] [∀ e, Nonempty (Elt F e)]
    (m : (ℓ : Loc Cert.KernelIdeal.nD Cert.KernelIdeal.τ Cert.KernelIdeal.sig) → Buf (Elt F) ℓ) (ρ) (hpre : Run.PreOK m) :
    θ_run (Cert.KernelIdeal.defs (F := F)) (Cert.KernelIdeal.threads (F := F)) ⟨m, fun _ => 0, ρ⟩
      (Run.QC m (fun _ _ _ => True)) :=
  Run.run_main m ρ (fun _ _ _ => True) hpre (fun _ _ _ _ _ _ => trivial)

/-- `Cert.quiescent_KernelIdeal`. -/
theorem frame_pi : Cert.quiescent_KernelIdeal := fun m ρ hpre =>
  (θ_run Cert.KernelIdeal.defs _ _).mono (fun _ h => ⟨fun c => (h.1 c).1, h.2⟩)
    (frame_run (F := Ideal) m ρ (ok_of_pre hpre))

/-- `Cert.quiescent_Kernel`: the program as printed is the same text (`same_defs`, `same_threads`). -/
theorem frame_p : Cert.quiescent_Kernel := fun m ρ hpre => by
  rw [same_defs, same_threads]
  exact (θ_run Cert.KernelIdeal.defs _ _).mono (fun _ h => ⟨fun c => (h.1 c).1, h.2⟩)
    (frame_run (F := Bits) m ρ (ok_of_pre_bits hpre))

/-- `Cert.quiescent_ReferenceIdeal`: the reference's run read at its arguments; it declares no counter. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.quiescent_ReferenceIdeal_pre_in_vocab`. -/
theorem frame_ri_pre : Cert.quiescent_ReferenceIdeal_pre_in_vocab := fun m ρ _ => frame_ri m ρ trivial

end Cert.Proof
-- ==== Proof.Mlp.lean ====
/-
  The two-layer network, and the packed table's payload read as it: at the extended reals what the table's body stores for a
  column of the transposed embedding table is the network of that row.
-/
module

public import proofs.«01_k».proof.Proof.MainRun
public import Idealize.ShloMosaic.Lib.Pointwise

@[expose] public section

noncomputable section

namespace Cert.Proof.Mlp

open Cert.KernelIdeal Cert.KernelIdeal.Gen
open Idealize.ShloMosaic

/-- What one row `e` of 64 numbers becomes at output `d`: `relu (e · W1 + b1) · W2 + b2`, the four parts given by their
    entries. -/
def mlp (e : Fin 64 → EReal) (w1 : Fin 64 → Fin 128 → EReal) (b1 : Fin 128 → EReal) (w2 : Fin 128 → Fin 32 → EReal)
    (b2 : Fin 32 → EReal) (d : Fin 32) : EReal :=
  (∑ h : Fin 128, max ((∑ j : Fin 64, e j * w1 j h) + b1 h) 0 * w2 h d) + b2 d

/-- The payload at an index is the network of the block's column. -/
theorem pay_eq (X : FVec Ideal S64x3584 .f32) (w1 : FVec Ideal S64x128 .f32) (b1 : FVec Ideal S1x128 .f32)
    (w2 : FVec Ideal S128x32 .f32) (b2 : FVec Ideal S1x32 .f32) (x : S3584x32.Idx) :
    k0_pay2 (F := Ideal) X w1 b1 w2 b2 x =
      mlp (fun j => X (ix2 (n0 := 64) (n1 := 3584) j (x 0))) (fun j h => w1 (ix2 (n0 := 64) (n1 := 128) j h))
        (fun h => b1 (ix2 (n0 := 1) (n1 := 128) 0 h)) (fun h d => w2 (ix2 (n0 := 128) (n1 := 32) h d))
        (fun d => b2 (ix2 (n0 := 1) (n1 := 32) 0 d)) (x 1) := by
  unfold mlp
  pointwise [k0_pay2]

/-- The network of the embedding table's row `r`, out of the six arguments as they are given. -/
def rowMlp (emb : FVec Ideal S100000x64 .f32) (w1 : FVec Ideal S64x128 .f32) (b1 : FVec Ideal S128 .f32)
    (w2 : FVec Ideal S128x32 .f32) (b2 : FVec Ideal S32 .f32) (r : Fin 100000) (d : Fin 32) : EReal :=
  mlp (fun j => emb (ix2 (n0 := 100000) (n1 := 64) r j)) (fun j h => w1 (ix2 (n0 := 64) (n1 := 128) j h))
    (fun h => b1 (ix1 (n0 := 128) h)) (fun h d => w2 (ix2 (n0 := 128) (n1 := 32) h d)) (fun d => b2 (ix1 (n0 := 32) d)) d

variable (m : (ℓ : Loc nD τ sig) → Buf (Elt Ideal) ℓ)

/-- A word is good for row `r` and output `d` when it is the network of that row. -/
def Right (c : Dev nD) : Run.Goodness Ideal := fun r d v => ∀ hr : r < 100000,
  v = rowMlp (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) ⟨r, hr⟩ d

/-- The table's payload is good for the row its block's column is. -/
theorem pay_right (c : Dev nD) : Run.PayOK (Run.Vr m) (Right m c) c := by
  intro X x v hv hX hr
  rw [pay_eq, Run.Vr_v1, Run.Vr_v2, Run.Vr_arg2, Run.Vr_arg4]
  unfold rowMlp
  have e0 : (fun j : Fin 64 => X (ix2 (n0 := 64) (n1 := 3584) j (x 0)))
      = fun j => m ((c.tc : Thread nD τ).loc main_arg1) (ix2 (n0 := 100000) (n1 := 64) ⟨v, hr⟩ j) := by
    funext j
    refine (congrArg X (ix2_eq_valueIdx (n0 := 64) (n1 := 3584) j (x 0))).trans ((hX j).trans ?_)
    rw [Run.Vr_v0]
    refine (congrArg _ (ix2_eq_valueIdx (n0 := 64) (n1 := 100000) j ⟨v, hr⟩).symm).trans ?_
    pointwise [Run.embT]
  have e1 : (fun h : Fin 128 => shapeCast S1x128 (m ((SparseCore.T c).loc main_arg3)) shapeCasts_S128_S1x128 (ix2 (n0 := 1) (n1 := 128) 0 h))
      = fun h => m ((c.tc : Thread nD τ).loc main_arg3) (ix1 (n0 := 128) h) := by
    funext h
    pointwise
  have e2 : (fun d : Fin 32 => shapeCast S1x32 (m ((SparseCore.T c).loc main_arg5)) shapeCasts_S32_S1x32 (ix2 (n0 := 1) (n1 := 32) 0 d))
      = fun d => m ((c.tc : Thread nD τ).loc main_arg5) (ix1 (n0 := 32) d) := by
    funext d
    pointwise
  rw [e0, e1, e2]

end Cert.Proof.Mlp
-- ==== Proof.RefValue.lean ====
/-
  The reference read as the network of the rows its ids name: the take's wrap of negative ids and its mask of ids outside the
  table do nothing to ids in range, the gather reads the row, and the two products with their biases are the network.
-/
module

public import proofs.«01_k».proof.Proof.Gen.ReferenceIdeal.Run
public import proofs.«01_k».proof.Proof.Mlp
public import Idealize.ShloMosaic.Lib.ReduceAll
public import Idealize.ShloMosaic.Lib.Routing.Ops

@[expose] public section

noncomputable section

namespace Cert.Proof.RefValue

open Cert.ReferenceIdeal Cert.ReferenceIdeal.Gen
open Idealize.ShloMosaic

variable (a0 : IVec S16384 32) (emb : FVec Ideal S100000x64 .f32)

/-- The ids as the take reads them: 100000 added to the negative ones, kept as a column. -/
def wrapped : IVec S16384x1 32 :=
  broadcastInDim S16384x1 ![0] bcast_S16384_S16384x1_0 (select (cmpi .slt a0 (broadcastInDim S16384 ![] bcast_S_S16384 (constantI S_ 32 0#32)))
    (addi a0 (broadcastInDim S16384 ![] bcast_S_S16384 (constantI S_ 32 100000#32))) a0)

/-- The take's test that an id is in the table. -/
def inside : IVec S16384 1 :=
  Host.reduce IntOp.andi (andi (cmpi .sge (wrapped a0) (broadcastInDim S16384x1 ![] bcast_S_S16384x1 (constantI S_ 32 0#32)))
    (cmpi .sle (wrapped a0) (broadcastInDim S16384x1 ![0, 1] bcast_S1x1_S16384x1_0_1 (broadcastInDim S1x1 ![1] bcast_S1_S1x1_1 (constantI S1 32 99999#32)))))
    (constantI S_ 1 1#1) reducesTo_S16384x1_S16384_d1 h_S_

/-- The rows taken. -/
def taken : FVec Ideal S16384x64 .f32 :=
  select (broadcastInDim S16384x64 ![0] bcast_S16384_S16384x64_0 (inside a0))
    (Host.gather gather_S100000x64_S16384x1_S16384x64_1_0_n_n_0_1_164 emb (wrapped a0))
    (broadcastInDim S16384x64 ![] bcast_S_S16384x64 (constant (F := Ideal) S_ .f32 0x7FC00000#32))

/-- The network of a block of rows, as the reference computes it. -/
def dense (x : FVec Ideal S16384x64 .f32) (w1 : FVec Ideal S64x128 .f32) (b1 : FVec Ideal S128 .f32)
    (w2 : FVec Ideal S128x32 .f32) (b2 : FVec Ideal S32 .f32) : FVec Ideal S16384x32 .f32 :=
  addf (Host.dotGeneral dot_S16384x128_S128x32_S16384x32_1_0_0_1_n_n none
    (maximumf (addf (Host.dotGeneral dot_S16384x64_S64x128_S16384x128_1_0_0_1_n_n none x w1)
        (broadcastInDim S16384x128 ![0, 1] bcast_S1x128_S16384x128_0_1 (broadcastInDim S1x128 ![1] bcast_S128_S1x128_1 b1)))
      (broadcastInDim S16384x128 ![] bcast_S_S16384x128 (constant (F := Ideal) S_ .f32 0x00000000#32))) w2)
    (broadcastInDim S16384x32 ![0, 1] bcast_S1x32_S16384x32_0_1 (broadcastInDim S1x32 ![1] bcast_S32_S1x32_1 b2))

theorem dense_eq (x : FVec Ideal S16384x64 .f32) (w1 : FVec Ideal S64x128 .f32) (b1 : FVec Ideal S128 .f32)
    (w2 : FVec Ideal S128x32 .f32) (b2 : FVec Ideal S32 .f32) (y : S16384x32.Idx) :
    dense x w1 b1 w2 b2 y =
      Mlp.mlp (fun j => x (ix2 (n0 := 16384) (n1 := 64) (y 0) j)) (fun j h => w1 (ix2 (n0 := 64) (n1 := 128) j h))
        (fun h => b1 (ix1 (n0 := 128) h)) (fun h d => w2 (ix2 (n0 := 128) (n1 := 32) h d)) (fun d => b2 (ix1 (n0 := 32) d)) (y 1) := by
  unfold Mlp.mlp
  pointwise [dense]

/-- A word below 100000 is not negative, so the take leaves it. -/
theorem word_kept (v : BitVec 32) (h : v.toNat < 100000) :
    Scalar.select (IntOp.cmpi .slt v 0#32) (IntOp.addi v 100000#32) v = v := by
  have e : IntOp.cmpi .slt v 0#32 = 0#1 := by
    have : v.slt 0#32 = false := by
      simp only [BitVec.slt_eq_decide, decide_eq_false_iff_not, BitVec.toInt_eq_toNat_cond, BitVec.toNat_ofNat, Nat.reducePow, Nat.reduceMod]
      omega
    simp only [IntOp.cmpi, this]; rfl
  rw [e]; rfl

/-- A word below 100000 is inside the table. -/
theorem word_inside (v : BitVec 32) (h : v.toNat < 100000) :
    IntOp.andi (IntOp.cmpi .sge v 0#32) (IntOp.cmpi .sle v 99999#32) = 1#1 := by
  have e1 : (0#32).sle v = true := by
    simp only [BitVec.sle_eq_decide, decide_eq_true_eq, BitVec.toInt_eq_toNat_cond, BitVec.toNat_ofNat, Nat.reducePow, Nat.reduceMod]
    omega
  have e2 : v.sle 99999#32 = true := by
    simp only [BitVec.sle_eq_decide, decide_eq_true_eq, BitVec.toInt_eq_toNat_cond, BitVec.toNat_ofNat, Nat.reducePow, Nat.reduceMod]
    omega
  simp only [IntOp.cmpi, e1, e2]; rfl

variable {a0} (hid : ∀ j, (a0 j).toNat < 100000)
include hid

theorem wrapped_eq (y : S16384x1.Idx) : wrapped a0 y = a0 (ix1 (n0 := 16384) (y 0)) := by
  refine Eq.trans ?_ (word_kept _ (hid (ix1 (n0 := 16384) (y 0))))
  pointwise [wrapped]

theorem inside_eq (j : S16384.Idx) : inside a0 j = 1#1 := by
  refine Host.reduce_andi_one _ _ _ _ _ rfl fun i => ?_
  refine Eq.trans ?_ (word_inside _ (hid (ix1 (n0 := 16384) (i 0))))
  rw [← wrapped_eq hid i]
  rfl

theorem taken_eq (r : Fin 16384) (c : Fin 64) :
    taken a0 emb (ix2 (n0 := 16384) (n1 := 64) r c)
      = emb (ix2 (n0 := 100000) (n1 := 64) ⟨(a0 (ix1 (n0 := 16384) r)).toNat, hid _⟩ c) := by
  have e : broadcastInDim S16384x64 ![0] bcast_S16384_S16384x64_0 (inside a0) (ix2 (n0 := 16384) (n1 := 64) r c) = 1#1 :=
    inside_eq hid _
  unfold taken
  rw [ValueIdx.select_apply, e, ValueIdx.select_one]
  show Host.gather gather_S100000x64_S16384x1_S16384x64_1_0_n_n_0_1_164 emb (wrapped a0) (ix2 (n0 := 16384) (n1 := 64) r c) = _
  rw [ix2_eq_valueIdx, ix2_eq_valueIdx]
  refine Routing.gather_row _ rfl rfl rfl rfl rfl emb (wrapped a0) r c ⟨_, hid _⟩ ?_ (by decide)
  rw [wrapped_eq hid, BitVec.ofNat_toNat, BitVec.setWidth_eq]

/-- The reference's result at an index: the network of the row the id names. -/
theorem ref_eq (w1 : FVec Ideal S64x128 .f32) (b1 : FVec Ideal S128 .f32) (w2 : FVec Ideal S128x32 .f32) (b2 : FVec Ideal S32 .f32)
    (y : S16384x32.Idx) :
    dense (taken a0 emb) w1 b1 w2 b2 y = Mlp.rowMlp emb w1 b1 w2 b2 ⟨(a0 (ix1 (n0 := 16384) (y 0))).toNat, hid _⟩ (y 1) := by
  rw [dense_eq]
  unfold Mlp.rowMlp
  rw [show (fun j : Fin 64 => taken a0 emb (ix2 (n0 := 16384) (n1 := 64) (y 0) j)) = _ from funext fun j => taken_eq emb hid (y 0) j]

end Cert.Proof.RefValue
-- ==== Proof.lean ====
/-
  The certificate: the four frames (Frames.lean), and the algebraic claim. The kernel's run ends with every word of the
  result the network of the row its id names (`Mlp.pay_right` through `Run.run_main`); the reference's run ends with the
  same (`RefValue.ref_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocab
public import proofs.«01_k».proof.Proof.Frames
public import proofs.«01_k».proof.Proof.RefValue
public import Idealize.ShloMosaic.Adequacy
public import Idealize.ShloMosaic.Init

@[expose] public section

noncomputable section

namespace Cert.Proof

open Idealize.ShloMosaic Idealize.SL.Sem

/-- The network of the row that the id at `i` names, at output `d`. -/
def valueAt (m : (ℓ : Loc Cert.KernelIdeal.nD Cert.KernelIdeal.τ Cert.KernelIdeal.sig) → Buf (Elt Ideal) ℓ) (h : Run.PreOK m)
    (c : Dev Cert.KernelIdeal.nD) (i : Cert.KernelIdeal.S16384.Idx) (d : Fin 32) : EReal :=
  Mlp.rowMlp (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) ⟨_, h c i⟩ d

/-- The shared value: at `(p, d)` the network of the row that id `p` names, at output `d`. -/
def value (m : (ℓ : Loc Cert.KernelIdeal.nD Cert.KernelIdeal.τ Cert.KernelIdeal.sig) → Buf (Elt Ideal) ℓ) (h : Run.PreOK m)
    (c : Dev Cert.KernelIdeal.nD) : FVec Ideal Cert.KernelIdeal.S16384x32 .f32 := fun y =>
  valueAt m h c (ix1 (n0 := 16384) (y 0)) (y 1)

/-- `Cert.algebraic_KernelIdeal_ReferenceIdeal`. -/
theorem algebraic : Cert.algebraic_KernelIdeal_ReferenceIdeal := by
  intro m g m' g' hpre hagree
  have hok := ok_of_pre hpre
  refine ⟨value m hok, ?_, ?_⟩
  · refine (θ_run Cert.KernelIdeal.defs _ _).mono (fun r h c => ⟨?_, (h.1 c).1⟩)
      (Run.run_main (F := Ideal) m g (Mlp.Right m 0) hok (fun c => by
        obtain rfl : c = 0 := Subsingleton.elim _ _
        exact Mlp.pay_right m 0))
    obtain rfl : c = 0 := Subsingleton.elim _ _
    funext y
    have e : ValueIdx.ix1 (n := 16384) (y 0) = ix1 (n0 := 16384) (y 0) := (ix1_eq_valueIdx (n0 := 16384) (y 0)).symm
    exact ((h.1 0).2 y (hok 0 _)).trans (congrArg (fun i => valueAt m hok 0 i (y 1)) e)
  · refine (θ_run Cert.ReferenceIdeal.defs _ _).mono (fun r h c => ⟨(h c).1.trans ?_, (h c).2⟩)
      (Cert.ReferenceIdeal.Value.run (F := Ideal) m' g')
    obtain ⟨e0, e1, e2, e3, e4, e5⟩ := hagree c
    rw [e0, e1, e2, e3, e4, e5]
    funext y
    exact RefValue.ref_eq _ (fun j => hok c j) _ _ _ _ y

theorem claim : Cert.Claim := ⟨Cert.Kernel.Gen.facts, Cert.KernelIdeal.Gen.facts, Cert.ReferenceIdeal.Gen.facts, Cert.Pre_in_vocab.Gen.facts,
  frame_p, frame_pi, frame_ri, frame_ri_pre, trivial, algebraic⟩

end Cert.Proof

end
